-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![2048, 2048]⟩ ⟨2, ![4096, 2048]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S2048 : Shape := ⟨1, ![2048]⟩
abbrev S1x2048 : Shape := ⟨2, ![1, 2048]⟩
abbrev S2048x2048 : Shape := ⟨2, ![2048, 2048]⟩
abbrev S512x2048 : Shape := ⟨2, ![512, 2048]⟩
abbrev S16 : Shape := ⟨1, ![16]⟩
abbrev S_ : Shape := ⟨0, ![]⟩
abbrev S1x512x2048 : Shape := ⟨3, ![1, 512, 2048]⟩
abbrev S1 : Shape := ⟨1, ![1]⟩
abbrev S32x2048 : Shape := ⟨2, ![32, 2048]⟩
abbrev S1x32x2048 : Shape := ⟨3, ![1, 32, 2048]⟩
abbrev S32 : Shape := ⟨1, ![32]⟩
abbrev S32x1 : Shape := ⟨2, ![32, 1]⟩

abbrev nBuf : Space → Nat
  | .hbm => 4
  | .vmem => 13
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S1x2048, .f32⟩
  | .hbm, ⟨3, _⟩ => ⟨S2048x2048, .f32⟩
  | .local _ .vmem, ⟨0, _⟩ => ⟨S1x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | _, _ => ⟨S1x4096x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 210 → Bool
  | ⟨i, _⟩ => dmaSemScopedAt i

abbrev sig : RefSig :=
  (ofTc nBuf bufTy 1 210 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) : Fin 3 → Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2048_i32 : BitVec 32 := 2048#32
  let v24 : BitVec 32 := Scalar.muli v2 c2048_i32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v25 : BitVec 32 := Scalar.muli v13 c512_i32
  let v26 : BitVec 32 := Scalar.addi v24 v25
  let c0_i32_17 : BitVec 32 := 0#32
  ![0, v26.toNat, 0]
def k0_off2 (d0 : Dev nD) (c0_i32_18 : BitVec 32) : Fin 3 → Nat :=
  let c0_i32_19 : BitVec 32 := 0#32
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v27 : BitVec 32 := Scalar.subi c1_i32_14 v2
  let c2048_i32_15 : BitVec 32 := 2048#32
  let v28 : BitVec 32 := Scalar.muli v27 c2048_i32_15
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32_16 : BitVec 32 := 512#32
  let v29 : BitVec 32 := Scalar.muli v13 c512_i32_16
  let v30 : BitVec 32 := Scalar.addi v28 v29
  let v33 : BitVec 32 := Scalar.addi v30 c0_i32_18
  let c0_i32_23 : BitVec 32 := 0#32
  ![0, v33.toNat, 0]
def k0_dev1 (d0 : Dev nD) : Nat :=
  let c0_i32_89 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_88 : BitVec 32 := 4#32
  let v130 : BitVec 32 := Scalar.muli v9 c4_i32_88
  let v131 : BitVec 32 := Scalar.addi c0_i32_89 v130
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_90 : BitVec 32 := 2#32
  let v132 : BitVec 32 := Scalar.muli v5 c2_i32_90
  let v133 : BitVec 32 := Scalar.addi v131 v132
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_91 : BitVec 32 := 1#32
  let v134 : BitVec 32 := Scalar.muli v8 c1_i32_91
  let v135 : BitVec 32 := Scalar.addi v133 v134
  v135.toNat
def k0_dev2 (d0 : Dev nD) : Nat :=
  let c0_i32_94 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_93 : BitVec 32 := 4#32
  let v136 : BitVec 32 := Scalar.muli v2 c4_i32_93
  let v137 : BitVec 32 := Scalar.addi c0_i32_94 v136
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_95 : BitVec 32 := 2#32
  let v138 : BitVec 32 := Scalar.muli v10 c2_i32_95
  let v139 : BitVec 32 := Scalar.addi v137 v138
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_96 : BitVec 32 := 1#32
  let v140 : BitVec 32 := Scalar.muli v8 c1_i32_96
  let v141 : BitVec 32 := Scalar.addi v139 v140
  v141.toNat
def k0_dev3 (d0 : Dev nD) : Nat :=
  let c0_i32_99 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_98 : BitVec 32 := 4#32
  let v142 : BitVec 32 := Scalar.muli v2 c4_i32_98
  let v143 : BitVec 32 := Scalar.addi c0_i32_99 v142
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_100 : BitVec 32 := 2#32
  let v144 : BitVec 32 := Scalar.muli v5 c2_i32_100
  let v145 : BitVec 32 := Scalar.addi v143 v144
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_101 : BitVec 32 := 1#32
  let v146 : BitVec 32 := Scalar.muli v11 c1_i32_101
  let v147 : BitVec 32 := Scalar.addi v145 v146
  v147.toNat
def k0_dev4 (d0 : Dev nD) : Nat :=
  let c0_i32_114 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_113 : BitVec 32 := 4#32
  let v158 : BitVec 32 := Scalar.muli v9 c4_i32_113
  let v159 : BitVec 32 := Scalar.addi c0_i32_114 v158
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_115 : BitVec 32 := 2#32
  let v160 : BitVec 32 := Scalar.muli v5 c2_i32_115
  let v161 : BitVec 32 := Scalar.addi v159 v160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_116 : BitVec 32 := 1#32
  let v162 : BitVec 32 := Scalar.muli v8 c1_i32_116
  let v163 : BitVec 32 := Scalar.addi v161 v162
  v163.toNat
def k0_dev5 (d0 : Dev nD) : Nat :=
  let c0_i32_132 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_131 : BitVec 32 := 4#32
  let v180 : BitVec 32 := Scalar.muli v9 c4_i32_131
  let v181 : BitVec 32 := Scalar.addi c0_i32_132 v180
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_133 : BitVec 32 := 2#32
  let v182 : BitVec 32 := Scalar.muli v5 c2_i32_133
  let v183 : BitVec 32 := Scalar.addi v181 v182
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_134 : BitVec 32 := 1#32
  let v184 : BitVec 32 := Scalar.muli v8 c1_i32_134
  let v185 : BitVec 32 := Scalar.addi v183 v184
  v185.toNat
def k0_dev6 (d0 : Dev nD) : Nat :=
  let c0_i32_150 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_149 : BitVec 32 := 4#32
  let v202 : BitVec 32 := Scalar.muli v9 c4_i32_149
  let v203 : BitVec 32 := Scalar.addi c0_i32_150 v202
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_151 : BitVec 32 := 2#32
  let v204 : BitVec 32 := Scalar.muli v5 c2_i32_151
  let v205 : BitVec 32 := Scalar.addi v203 v204
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_152 : BitVec 32 := 1#32
  let v206 : BitVec 32 := Scalar.muli v8 c1_i32_152
  let v207 : BitVec 32 := Scalar.addi v205 v206
  v207.toNat
def k0_dev7 (d0 : Dev nD) : Nat :=
  let c0_i32_168 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_167 : BitVec 32 := 4#32
  let v224 : BitVec 32 := Scalar.muli v9 c4_i32_167
  let v225 : BitVec 32 := Scalar.addi c0_i32_168 v224
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_169 : BitVec 32 := 2#32
  let v226 : BitVec 32 := Scalar.muli v5 c2_i32_169
  let v227 : BitVec 32 := Scalar.addi v225 v226
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_170 : BitVec 32 := 1#32
  let v228 : BitVec 32 := Scalar.muli v8 c1_i32_170
  let v229 : BitVec 32 := Scalar.addi v227 v228
  v229.toNat
def k0_dev8 (d0 : Dev nD) : Nat :=
  let c0_i32_186 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_185 : BitVec 32 := 4#32
  let v246 : BitVec 32 := Scalar.muli v9 c4_i32_185
  let v247 : BitVec 32 := Scalar.addi c0_i32_186 v246
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_187 : BitVec 32 := 2#32
  let v248 : BitVec 32 := Scalar.muli v5 c2_i32_187
  let v249 : BitVec 32 := Scalar.addi v247 v248
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_188 : BitVec 32 := 1#32
  let v250 : BitVec 32 := Scalar.muli v8 c1_i32_188
  let v251 : BitVec 32 := Scalar.addi v249 v250
  v251.toNat
def k0_dev9 (d0 : Dev nD) : Nat :=
  let c0_i32_204 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_203 : BitVec 32 := 4#32
  let v268 : BitVec 32 := Scalar.muli v9 c4_i32_203
  let v269 : BitVec 32 := Scalar.addi c0_i32_204 v268
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_205 : BitVec 32 := 2#32
  let v270 : BitVec 32 := Scalar.muli v5 c2_i32_205
  let v271 : BitVec 32 := Scalar.addi v269 v270
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_206 : BitVec 32 := 1#32
  let v272 : BitVec 32 := Scalar.muli v8 c1_i32_206
  let v273 : BitVec 32 := Scalar.addi v271 v272
  v273.toNat
def k0_dev10 (d0 : Dev nD) : Nat :=
  let c0_i32_222 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_221 : BitVec 32 := 4#32
  let v290 : BitVec 32 := Scalar.muli v9 c4_i32_221
  let v291 : BitVec 32 := Scalar.addi c0_i32_222 v290
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_223 : BitVec 32 := 2#32
  let v292 : BitVec 32 := Scalar.muli v5 c2_i32_223
  let v293 : BitVec 32 := Scalar.addi v291 v292
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_224 : BitVec 32 := 1#32
  let v294 : BitVec 32 := Scalar.muli v8 c1_i32_224
  let v295 : BitVec 32 := Scalar.addi v293 v294
  v295.toNat
def k0_dev11 (d0 : Dev nD) : Nat :=
  let c0_i32_240 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_239 : BitVec 32 := 4#32
  let v312 : BitVec 32 := Scalar.muli v9 c4_i32_239
  let v313 : BitVec 32 := Scalar.addi c0_i32_240 v312
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_241 : BitVec 32 := 2#32
  let v314 : BitVec 32 := Scalar.muli v5 c2_i32_241
  let v315 : BitVec 32 := Scalar.addi v313 v314
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_242 : BitVec 32 := 1#32
  let v316 : BitVec 32 := Scalar.muli v8 c1_i32_242
  let v317 : BitVec 32 := Scalar.addi v315 v316
  v317.toNat
def k0_dev12 (d0 : Dev nD) : Nat :=
  let c0_i32_258 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_257 : BitVec 32 := 4#32
  let v334 : BitVec 32 := Scalar.muli v9 c4_i32_257
  let v335 : BitVec 32 := Scalar.addi c0_i32_258 v334
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_259 : BitVec 32 := 2#32
  let v336 : BitVec 32 := Scalar.muli v5 c2_i32_259
  let v337 : BitVec 32 := Scalar.addi v335 v336
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_260 : BitVec 32 := 1#32
  let v338 : BitVec 32 := Scalar.muli v8 c1_i32_260
  let v339 : BitVec 32 := Scalar.addi v337 v338
  v339.toNat
def k0_dev13 (d0 : Dev nD) : Nat :=
  let c0_i32_276 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_275 : BitVec 32 := 4#32
  let v356 : BitVec 32 := Scalar.muli v9 c4_i32_275
  let v357 : BitVec 32 := Scalar.addi c0_i32_276 v356
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_277 : BitVec 32 := 2#32
  let v358 : BitVec 32 := Scalar.muli v5 c2_i32_277
  let v359 : BitVec 32 := Scalar.addi v357 v358
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_278 : BitVec 32 := 1#32
  let v360 : BitVec 32 := Scalar.muli v8 c1_i32_278
  let v361 : BitVec 32 := Scalar.addi v359 v360
  v361.toNat
def k0_dev14 (d0 : Dev nD) : Nat :=
  let c0_i32_294 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_293 : BitVec 32 := 4#32
  let v378 : BitVec 32 := Scalar.muli v9 c4_i32_293
  let v379 : BitVec 32 := Scalar.addi c0_i32_294 v378
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_295 : BitVec 32 := 2#32
  let v380 : BitVec 32 := Scalar.muli v5 c2_i32_295
  let v381 : BitVec 32 := Scalar.addi v379 v380
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_296 : BitVec 32 := 1#32
  let v382 : BitVec 32 := Scalar.muli v8 c1_i32_296
  let v383 : BitVec 32 := Scalar.addi v381 v382
  v383.toNat
def k0_dev15 (d0 : Dev nD) : Nat :=
  let c0_i32_312 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_311 : BitVec 32 := 4#32
  let v400 : BitVec 32 := Scalar.muli v9 c4_i32_311
  let v401 : BitVec 32 := Scalar.addi c0_i32_312 v400
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_313 : BitVec 32 := 2#32
  let v402 : BitVec 32 := Scalar.muli v5 c2_i32_313
  let v403 : BitVec 32 := Scalar.addi v401 v402
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_314 : BitVec 32 := 1#32
  let v404 : BitVec 32 := Scalar.muli v8 c1_i32_314
  let v405 : BitVec 32 := Scalar.addi v403 v404
  v405.toNat
def k0_dev16 (d0 : Dev nD) : Nat :=
  let c0_i32_330 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_329 : BitVec 32 := 4#32
  let v422 : BitVec 32 := Scalar.muli v9 c4_i32_329
  let v423 : BitVec 32 := Scalar.addi c0_i32_330 v422
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_331 : BitVec 32 := 2#32
  let v424 : BitVec 32 := Scalar.muli v5 c2_i32_331
  let v425 : BitVec 32 := Scalar.addi v423 v424
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_332 : BitVec 32 := 1#32
  let v426 : BitVec 32 := Scalar.muli v8 c1_i32_332
  let v427 : BitVec 32 := Scalar.addi v425 v426
  v427.toNat
def k0_dev17 (d0 : Dev nD) : Nat :=
  let c0_i32_348 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_347 : BitVec 32 := 4#32
  let v444 : BitVec 32 := Scalar.muli v9 c4_i32_347
  let v445 : BitVec 32 := Scalar.addi c0_i32_348 v444
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_349 : BitVec 32 := 2#32
  let v446 : BitVec 32 := Scalar.muli v5 c2_i32_349
  let v447 : BitVec 32 := Scalar.addi v445 v446
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_350 : BitVec 32 := 1#32
  let v448 : BitVec 32 := Scalar.muli v8 c1_i32_350
  let v449 : BitVec 32 := Scalar.addi v447 v448
  v449.toNat
def k0_dev18 (d0 : Dev nD) : Nat :=
  let c0_i32_366 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_365 : BitVec 32 := 4#32
  let v466 : BitVec 32 := Scalar.muli v9 c4_i32_365
  let v467 : BitVec 32 := Scalar.addi c0_i32_366 v466
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_367 : BitVec 32 := 2#32
  let v468 : BitVec 32 := Scalar.muli v5 c2_i32_367
  let v469 : BitVec 32 := Scalar.addi v467 v468
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_368 : BitVec 32 := 1#32
  let v470 : BitVec 32 := Scalar.muli v8 c1_i32_368
  let v471 : BitVec 32 := Scalar.addi v469 v470
  v471.toNat
def k0_dev19 (d0 : Dev nD) : Nat :=
  let c0_i32_384 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_383 : BitVec 32 := 4#32
  let v488 : BitVec 32 := Scalar.muli v9 c4_i32_383
  let v489 : BitVec 32 := Scalar.addi c0_i32_384 v488
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_385 : BitVec 32 := 2#32
  let v490 : BitVec 32 := Scalar.muli v5 c2_i32_385
  let v491 : BitVec 32 := Scalar.addi v489 v490
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_386 : BitVec 32 := 1#32
  let v492 : BitVec 32 := Scalar.muli v8 c1_i32_386
  let v493 : BitVec 32 := Scalar.addi v491 v492
  v493.toNat
def k0_dev20 (d0 : Dev nD) : Nat :=
  let c0_i32_416 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_415 : BitVec 32 := 4#32
  let v534 : BitVec 32 := Scalar.muli v2 c4_i32_415
  let v535 : BitVec 32 := Scalar.addi c0_i32_416 v534
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_417 : BitVec 32 := 2#32
  let v536 : BitVec 32 := Scalar.muli v10 c2_i32_417
  let v537 : BitVec 32 := Scalar.addi v535 v536
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_418 : BitVec 32 := 1#32
  let v538 : BitVec 32 := Scalar.muli v8 c1_i32_418
  let v539 : BitVec 32 := Scalar.addi v537 v538
  v539.toNat
def k0_dev21 (d0 : Dev nD) : Nat :=
  let c0_i32_426 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_425 : BitVec 32 := 4#32
  let v546 : BitVec 32 := Scalar.muli v2 c4_i32_425
  let v547 : BitVec 32 := Scalar.addi c0_i32_426 v546
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_427 : BitVec 32 := 2#32
  let v548 : BitVec 32 := Scalar.muli v5 c2_i32_427
  let v549 : BitVec 32 := Scalar.addi v547 v548
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_428 : BitVec 32 := 1#32
  let v550 : BitVec 32 := Scalar.muli v11 c1_i32_428
  let v551 : BitVec 32 := Scalar.addi v549 v550
  v551.toNat
def k0_off3 (d0 : Dev nD) (c0_i32_436 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32_435 : BitVec 32 := 512#32
  let v561 : BitVec 32 := Scalar.muli v13 c512_i32_435
  let v562 : BitVec 32 := Scalar.addi v561 c0_i32_436
  let c0_i32_438 : BitVec 32 := 0#32
  ![v562.toNat, 0]
def k0_dev22 (d0 : Dev nD) : Nat :=
  let c0_i32_465 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_464 : BitVec 32 := 4#32
  let v599 : BitVec 32 := Scalar.muli v2 c4_i32_464
  let v600 : BitVec 32 := Scalar.addi c0_i32_465 v599
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_466 : BitVec 32 := 2#32
  let v601 : BitVec 32 := Scalar.muli v10 c2_i32_466
  let v602 : BitVec 32 := Scalar.addi v600 v601
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_467 : BitVec 32 := 1#32
  let v603 : BitVec 32 := Scalar.muli v8 c1_i32_467
  let v604 : BitVec 32 := Scalar.addi v602 v603
  v604.toNat
def k0_dev23 (d0 : Dev nD) : Nat :=
  let c0_i32_475 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_474 : BitVec 32 := 4#32
  let v611 : BitVec 32 := Scalar.muli v2 c4_i32_474
  let v612 : BitVec 32 := Scalar.addi c0_i32_475 v611
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_476 : BitVec 32 := 2#32
  let v613 : BitVec 32 := Scalar.muli v5 c2_i32_476
  let v614 : BitVec 32 := Scalar.addi v612 v613
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_477 : BitVec 32 := 1#32
  let v615 : BitVec 32 := Scalar.muli v11 c1_i32_477
  let v616 : BitVec 32 := Scalar.addi v614 v615
  v616.toNat
def k0_dev24 (d0 : Dev nD) : Nat :=
  let c0_i32_514 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_513 : BitVec 32 := 4#32
  let v664 : BitVec 32 := Scalar.muli v2 c4_i32_513
  let v665 : BitVec 32 := Scalar.addi c0_i32_514 v664
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_515 : BitVec 32 := 2#32
  let v666 : BitVec 32 := Scalar.muli v10 c2_i32_515
  let v667 : BitVec 32 := Scalar.addi v665 v666
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_516 : BitVec 32 := 1#32
  let v668 : BitVec 32 := Scalar.muli v8 c1_i32_516
  let v669 : BitVec 32 := Scalar.addi v667 v668
  v669.toNat
def k0_dev25 (d0 : Dev nD) : Nat :=
  let c0_i32_524 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_523 : BitVec 32 := 4#32
  let v676 : BitVec 32 := Scalar.muli v2 c4_i32_523
  let v677 : BitVec 32 := Scalar.addi c0_i32_524 v676
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_525 : BitVec 32 := 2#32
  let v678 : BitVec 32 := Scalar.muli v5 c2_i32_525
  let v679 : BitVec 32 := Scalar.addi v677 v678
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_526 : BitVec 32 := 1#32
  let v680 : BitVec 32 := Scalar.muli v11 c1_i32_526
  let v681 : BitVec 32 := Scalar.addi v679 v680
  v681.toNat
def k0_off4 (d0 : Dev nD) (c0_i32_554 : BitVec 32) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c512_i32_553 : BitVec 32 := 512#32
  let v712 : BitVec 32 := Scalar.muli v16 c512_i32_553
  let v713 : BitVec 32 := Scalar.addi v712 c0_i32_554
  let c0_i32_556 : BitVec 32 := 0#32
  ![v713.toNat, 0]
def k0_dev26 (d0 : Dev nD) : Nat :=
  let c0_i32_562 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_561 : BitVec 32 := 4#32
  let v718 : BitVec 32 := Scalar.muli v2 c4_i32_561
  let v719 : BitVec 32 := Scalar.addi c0_i32_562 v718
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_563 : BitVec 32 := 2#32
  let v720 : BitVec 32 := Scalar.muli v5 c2_i32_563
  let v721 : BitVec 32 := Scalar.addi v719 v720
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_564 : BitVec 32 := 1#32
  let v722 : BitVec 32 := Scalar.muli v11 c1_i32_564
  let v723 : BitVec 32 := Scalar.addi v721 v722
  v723.toNat
def k0_off5 (d0 : Dev nD) (c0_i32_584 : BitVec 32) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c512_i32_583 : BitVec 32 := 512#32
  let v745 : BitVec 32 := Scalar.muli v19 c512_i32_583
  let v746 : BitVec 32 := Scalar.addi v745 c0_i32_584
  let c0_i32_586 : BitVec 32 := 0#32
  ![v746.toNat, 0]
def k0_dev27 (d0 : Dev nD) : Nat :=
  let c0_i32_613 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_612 : BitVec 32 := 4#32
  let v783 : BitVec 32 := Scalar.muli v2 c4_i32_612
  let v784 : BitVec 32 := Scalar.addi c0_i32_613 v783
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_614 : BitVec 32 := 2#32
  let v785 : BitVec 32 := Scalar.muli v10 c2_i32_614
  let v786 : BitVec 32 := Scalar.addi v784 v785
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_615 : BitVec 32 := 1#32
  let v787 : BitVec 32 := Scalar.muli v8 c1_i32_615
  let v788 : BitVec 32 := Scalar.addi v786 v787
  v788.toNat
def k0_dev28 (d0 : Dev nD) : Nat :=
  let c0_i32_623 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_622 : BitVec 32 := 4#32
  let v795 : BitVec 32 := Scalar.muli v2 c4_i32_622
  let v796 : BitVec 32 := Scalar.addi c0_i32_623 v795
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_624 : BitVec 32 := 2#32
  let v797 : BitVec 32 := Scalar.muli v5 c2_i32_624
  let v798 : BitVec 32 := Scalar.addi v796 v797
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_625 : BitVec 32 := 1#32
  let v799 : BitVec 32 := Scalar.muli v11 c1_i32_625
  let v800 : BitVec 32 := Scalar.addi v798 v799
  v800.toNat
def k0_dev29 (d0 : Dev nD) : Nat :=
  let c0_i32_681 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_680 : BitVec 32 := 4#32
  let v858 : BitVec 32 := Scalar.muli v2 c4_i32_680
  let v859 : BitVec 32 := Scalar.addi c0_i32_681 v858
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_682 : BitVec 32 := 2#32
  let v860 : BitVec 32 := Scalar.muli v10 c2_i32_682
  let v861 : BitVec 32 := Scalar.addi v859 v860
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_683 : BitVec 32 := 1#32
  let v862 : BitVec 32 := Scalar.muli v8 c1_i32_683
  let v863 : BitVec 32 := Scalar.addi v861 v862
  v863.toNat
def k0_dev30 (d0 : Dev nD) : Nat :=
  let c0_i32_712 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_711 : BitVec 32 := 4#32
  let v902 : BitVec 32 := Scalar.muli v2 c4_i32_711
  let v903 : BitVec 32 := Scalar.addi c0_i32_712 v902
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_713 : BitVec 32 := 2#32
  let v904 : BitVec 32 := Scalar.muli v10 c2_i32_713
  let v905 : BitVec 32 := Scalar.addi v903 v904
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_714 : BitVec 32 := 1#32
  let v906 : BitVec 32 := Scalar.muli v8 c1_i32_714
  let v907 : BitVec 32 := Scalar.addi v905 v906
  v907.toNat
def k0_dev31 (d0 : Dev nD) : Nat :=
  let c0_i32_722 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_721 : BitVec 32 := 4#32
  let v914 : BitVec 32 := Scalar.muli v2 c4_i32_721
  let v915 : BitVec 32 := Scalar.addi c0_i32_722 v914
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_723 : BitVec 32 := 2#32
  let v916 : BitVec 32 := Scalar.muli v5 c2_i32_723
  let v917 : BitVec 32 := Scalar.addi v915 v916
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_724 : BitVec 32 := 1#32
  let v918 : BitVec 32 := Scalar.muli v11 c1_i32_724
  let v919 : BitVec 32 := Scalar.addi v917 v918
  v919.toNat
def k0_dev32 (d0 : Dev nD) : Nat :=
  let c0_i32_760 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_759 : BitVec 32 := 4#32
  let v956 : BitVec 32 := Scalar.muli v2 c4_i32_759
  let v957 : BitVec 32 := Scalar.addi c0_i32_760 v956
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_761 : BitVec 32 := 2#32
  let v958 : BitVec 32 := Scalar.muli v5 c2_i32_761
  let v959 : BitVec 32 := Scalar.addi v957 v958
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_762 : BitVec 32 := 1#32
  let v960 : BitVec 32 := Scalar.muli v11 c1_i32_762
  let v961 : BitVec 32 := Scalar.addi v959 v960
  v961.toNat
def k0_dev33 (d0 : Dev nD) : Nat :=
  let c0_i32_811 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_810 : BitVec 32 := 4#32
  let v1021 : BitVec 32 := Scalar.muli v2 c4_i32_810
  let v1022 : BitVec 32 := Scalar.addi c0_i32_811 v1021
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_812 : BitVec 32 := 2#32
  let v1023 : BitVec 32 := Scalar.muli v10 c2_i32_812
  let v1024 : BitVec 32 := Scalar.addi v1022 v1023
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_813 : BitVec 32 := 1#32
  let v1025 : BitVec 32 := Scalar.muli v8 c1_i32_813
  let v1026 : BitVec 32 := Scalar.addi v1024 v1025
  v1026.toNat
def k0_dev34 (d0 : Dev nD) : Nat :=
  let c0_i32_821 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_820 : BitVec 32 := 4#32
  let v1033 : BitVec 32 := Scalar.muli v2 c4_i32_820
  let v1034 : BitVec 32 := Scalar.addi c0_i32_821 v1033
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_822 : BitVec 32 := 2#32
  let v1035 : BitVec 32 := Scalar.muli v5 c2_i32_822
  let v1036 : BitVec 32 := Scalar.addi v1034 v1035
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_823 : BitVec 32 := 1#32
  let v1037 : BitVec 32 := Scalar.muli v11 c1_i32_823
  let v1038 : BitVec 32 := Scalar.addi v1036 v1037
  v1038.toNat
def k0_dev35 (d0 : Dev nD) : Nat :=
  let c0_i32_879 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_878 : BitVec 32 := 4#32
  let v1096 : BitVec 32 := Scalar.muli v2 c4_i32_878
  let v1097 : BitVec 32 := Scalar.addi c0_i32_879 v1096
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_880 : BitVec 32 := 2#32
  let v1098 : BitVec 32 := Scalar.muli v10 c2_i32_880
  let v1099 : BitVec 32 := Scalar.addi v1097 v1098
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_881 : BitVec 32 := 1#32
  let v1100 : BitVec 32 := Scalar.muli v8 c1_i32_881
  let v1101 : BitVec 32 := Scalar.addi v1099 v1100
  v1101.toNat
def k0_dev36 (d0 : Dev nD) : Nat :=
  let c0_i32_910 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_909 : BitVec 32 := 4#32
  let v1140 : BitVec 32 := Scalar.muli v2 c4_i32_909
  let v1141 : BitVec 32 := Scalar.addi c0_i32_910 v1140
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_911 : BitVec 32 := 2#32
  let v1142 : BitVec 32 := Scalar.muli v10 c2_i32_911
  let v1143 : BitVec 32 := Scalar.addi v1141 v1142
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_912 : BitVec 32 := 1#32
  let v1144 : BitVec 32 := Scalar.muli v8 c1_i32_912
  let v1145 : BitVec 32 := Scalar.addi v1143 v1144
  v1145.toNat
def k0_dev37 (d0 : Dev nD) : Nat :=
  let c0_i32_920 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_919 : BitVec 32 := 4#32
  let v1152 : BitVec 32 := Scalar.muli v2 c4_i32_919
  let v1153 : BitVec 32 := Scalar.addi c0_i32_920 v1152
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_921 : BitVec 32 := 2#32
  let v1154 : BitVec 32 := Scalar.muli v5 c2_i32_921
  let v1155 : BitVec 32 := Scalar.addi v1153 v1154
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_922 : BitVec 32 := 1#32
  let v1156 : BitVec 32 := Scalar.muli v11 c1_i32_922
  let v1157 : BitVec 32 := Scalar.addi v1155 v1156
  v1157.toNat
def k0_dev38 (d0 : Dev nD) : Nat :=
  let c0_i32_958 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_957 : BitVec 32 := 4#32
  let v1194 : BitVec 32 := Scalar.muli v2 c4_i32_957
  let v1195 : BitVec 32 := Scalar.addi c0_i32_958 v1194
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_959 : BitVec 32 := 2#32
  let v1196 : BitVec 32 := Scalar.muli v5 c2_i32_959
  let v1197 : BitVec 32 := Scalar.addi v1195 v1196
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_960 : BitVec 32 := 1#32
  let v1198 : BitVec 32 := Scalar.muli v11 c1_i32_960
  let v1199 : BitVec 32 := Scalar.addi v1197 v1198
  v1199.toNat
def k0_dev39 (d0 : Dev nD) : Nat :=
  let c0_i32_1009 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1008 : BitVec 32 := 4#32
  let v1259 : BitVec 32 := Scalar.muli v2 c4_i32_1008
  let v1260 : BitVec 32 := Scalar.addi c0_i32_1009 v1259
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1010 : BitVec 32 := 2#32
  let v1261 : BitVec 32 := Scalar.muli v10 c2_i32_1010
  let v1262 : BitVec 32 := Scalar.addi v1260 v1261
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1011 : BitVec 32 := 1#32
  let v1263 : BitVec 32 := Scalar.muli v8 c1_i32_1011
  let v1264 : BitVec 32 := Scalar.addi v1262 v1263
  v1264.toNat
def k0_dev40 (d0 : Dev nD) : Nat :=
  let c0_i32_1019 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1018 : BitVec 32 := 4#32
  let v1271 : BitVec 32 := Scalar.muli v2 c4_i32_1018
  let v1272 : BitVec 32 := Scalar.addi c0_i32_1019 v1271
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1020 : BitVec 32 := 2#32
  let v1273 : BitVec 32 := Scalar.muli v5 c2_i32_1020
  let v1274 : BitVec 32 := Scalar.addi v1272 v1273
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1021 : BitVec 32 := 1#32
  let v1275 : BitVec 32 := Scalar.muli v11 c1_i32_1021
  let v1276 : BitVec 32 := Scalar.addi v1274 v1275
  v1276.toNat
def k0_dev41 (d0 : Dev nD) : Nat :=
  let c0_i32_1077 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1076 : BitVec 32 := 4#32
  let v1334 : BitVec 32 := Scalar.muli v2 c4_i32_1076
  let v1335 : BitVec 32 := Scalar.addi c0_i32_1077 v1334
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1078 : BitVec 32 := 2#32
  let v1336 : BitVec 32 := Scalar.muli v10 c2_i32_1078
  let v1337 : BitVec 32 := Scalar.addi v1335 v1336
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1079 : BitVec 32 := 1#32
  let v1338 : BitVec 32 := Scalar.muli v8 c1_i32_1079
  let v1339 : BitVec 32 := Scalar.addi v1337 v1338
  v1339.toNat
def k0_off6 (d0 : Dev nD) (c0_i32_1099 : BitVec 32) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c512_i32_1098 : BitVec 32 := 512#32
  let v1361 : BitVec 32 := Scalar.muli v23 c512_i32_1098
  let v1362 : BitVec 32 := Scalar.addi v1361 c0_i32_1099
  let c0_i32_1101 : BitVec 32 := 0#32
  ![v1362.toNat, 0]
def k0_dev42 (d0 : Dev nD) : Nat :=
  let c0_i32_1128 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1127 : BitVec 32 := 4#32
  let v1399 : BitVec 32 := Scalar.muli v2 c4_i32_1127
  let v1400 : BitVec 32 := Scalar.addi c0_i32_1128 v1399
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1129 : BitVec 32 := 2#32
  let v1401 : BitVec 32 := Scalar.muli v10 c2_i32_1129
  let v1402 : BitVec 32 := Scalar.addi v1400 v1401
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1130 : BitVec 32 := 1#32
  let v1403 : BitVec 32 := Scalar.muli v8 c1_i32_1130
  let v1404 : BitVec 32 := Scalar.addi v1402 v1403
  v1404.toNat
def k0_dev43 (d0 : Dev nD) : Nat :=
  let c0_i32_1138 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1137 : BitVec 32 := 4#32
  let v1411 : BitVec 32 := Scalar.muli v2 c4_i32_1137
  let v1412 : BitVec 32 := Scalar.addi c0_i32_1138 v1411
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1139 : BitVec 32 := 2#32
  let v1413 : BitVec 32 := Scalar.muli v5 c2_i32_1139
  let v1414 : BitVec 32 := Scalar.addi v1412 v1413
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1140 : BitVec 32 := 1#32
  let v1415 : BitVec 32 := Scalar.muli v11 c1_i32_1140
  let v1416 : BitVec 32 := Scalar.addi v1414 v1415
  v1416.toNat
def k0_dev44 (d0 : Dev nD) : Nat :=
  let c0_i32_1176 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1175 : BitVec 32 := 4#32
  let v1453 : BitVec 32 := Scalar.muli v2 c4_i32_1175
  let v1454 : BitVec 32 := Scalar.addi c0_i32_1176 v1453
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1177 : BitVec 32 := 2#32
  let v1455 : BitVec 32 := Scalar.muli v5 c2_i32_1177
  let v1456 : BitVec 32 := Scalar.addi v1454 v1455
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1178 : BitVec 32 := 1#32
  let v1457 : BitVec 32 := Scalar.muli v11 c1_i32_1178
  let v1458 : BitVec 32 := Scalar.addi v1456 v1457
  v1458.toNat
def k0_dev45 (d0 : Dev nD) : Nat :=
  let c0_i32_1247 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1246 : BitVec 32 := 4#32
  let v1539 : BitVec 32 := Scalar.muli v2 c4_i32_1246
  let v1540 : BitVec 32 := Scalar.addi c0_i32_1247 v1539
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1248 : BitVec 32 := 2#32
  let v1541 : BitVec 32 := Scalar.muli v10 c2_i32_1248
  let v1542 : BitVec 32 := Scalar.addi v1540 v1541
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1249 : BitVec 32 := 1#32
  let v1543 : BitVec 32 := Scalar.muli v8 c1_i32_1249
  let v1544 : BitVec 32 := Scalar.addi v1542 v1543
  v1544.toNat
def k0_dev46 (d0 : Dev nD) : Nat :=
  let c0_i32_1257 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1256 : BitVec 32 := 4#32
  let v1551 : BitVec 32 := Scalar.muli v2 c4_i32_1256
  let v1552 : BitVec 32 := Scalar.addi c0_i32_1257 v1551
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1258 : BitVec 32 := 2#32
  let v1553 : BitVec 32 := Scalar.muli v5 c2_i32_1258
  let v1554 : BitVec 32 := Scalar.addi v1552 v1553
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1259 : BitVec 32 := 1#32
  let v1555 : BitVec 32 := Scalar.muli v11 c1_i32_1259
  let v1556 : BitVec 32 := Scalar.addi v1554 v1555
  v1556.toNat
def k0_dev47 (d0 : Dev nD) : Nat :=
  let c0_i32_1315 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1314 : BitVec 32 := 4#32
  let v1614 : BitVec 32 := Scalar.muli v2 c4_i32_1314
  let v1615 : BitVec 32 := Scalar.addi c0_i32_1315 v1614
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1316 : BitVec 32 := 2#32
  let v1616 : BitVec 32 := Scalar.muli v10 c2_i32_1316
  let v1617 : BitVec 32 := Scalar.addi v1615 v1616
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1317 : BitVec 32 := 1#32
  let v1618 : BitVec 32 := Scalar.muli v8 c1_i32_1317
  let v1619 : BitVec 32 := Scalar.addi v1617 v1618
  v1619.toNat
def k0_dev48 (d0 : Dev nD) : Nat :=
  let c0_i32_1366 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1365 : BitVec 32 := 4#32
  let v1679 : BitVec 32 := Scalar.muli v2 c4_i32_1365
  let v1680 : BitVec 32 := Scalar.addi c0_i32_1366 v1679
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1367 : BitVec 32 := 2#32
  let v1681 : BitVec 32 := Scalar.muli v10 c2_i32_1367
  let v1682 : BitVec 32 := Scalar.addi v1680 v1681
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1368 : BitVec 32 := 1#32
  let v1683 : BitVec 32 := Scalar.muli v8 c1_i32_1368
  let v1684 : BitVec 32 := Scalar.addi v1682 v1683
  v1684.toNat
def k0_dev49 (d0 : Dev nD) : Nat :=
  let c0_i32_1376 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1375 : BitVec 32 := 4#32
  let v1691 : BitVec 32 := Scalar.muli v2 c4_i32_1375
  let v1692 : BitVec 32 := Scalar.addi c0_i32_1376 v1691
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1377 : BitVec 32 := 2#32
  let v1693 : BitVec 32 := Scalar.muli v5 c2_i32_1377
  let v1694 : BitVec 32 := Scalar.addi v1692 v1693
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1378 : BitVec 32 := 1#32
  let v1695 : BitVec 32 := Scalar.muli v11 c1_i32_1378
  let v1696 : BitVec 32 := Scalar.addi v1694 v1695
  v1696.toNat
def k0_dev50 (d0 : Dev nD) : Nat :=
  let c0_i32_1414 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1413 : BitVec 32 := 4#32
  let v1733 : BitVec 32 := Scalar.muli v2 c4_i32_1413
  let v1734 : BitVec 32 := Scalar.addi c0_i32_1414 v1733
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1415 : BitVec 32 := 2#32
  let v1735 : BitVec 32 := Scalar.muli v5 c2_i32_1415
  let v1736 : BitVec 32 := Scalar.addi v1734 v1735
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1416 : BitVec 32 := 1#32
  let v1737 : BitVec 32 := Scalar.muli v11 c1_i32_1416
  let v1738 : BitVec 32 := Scalar.addi v1736 v1737
  v1738.toNat
def k0_dev51 (d0 : Dev nD) : Nat :=
  let c0_i32_1485 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1484 : BitVec 32 := 4#32
  let v1819 : BitVec 32 := Scalar.muli v2 c4_i32_1484
  let v1820 : BitVec 32 := Scalar.addi c0_i32_1485 v1819
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1486 : BitVec 32 := 2#32
  let v1821 : BitVec 32 := Scalar.muli v10 c2_i32_1486
  let v1822 : BitVec 32 := Scalar.addi v1820 v1821
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1487 : BitVec 32 := 1#32
  let v1823 : BitVec 32 := Scalar.muli v8 c1_i32_1487
  let v1824 : BitVec 32 := Scalar.addi v1822 v1823
  v1824.toNat
def k0_dev52 (d0 : Dev nD) : Nat :=
  let c0_i32_1495 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1494 : BitVec 32 := 4#32
  let v1831 : BitVec 32 := Scalar.muli v2 c4_i32_1494
  let v1832 : BitVec 32 := Scalar.addi c0_i32_1495 v1831
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1496 : BitVec 32 := 2#32
  let v1833 : BitVec 32 := Scalar.muli v5 c2_i32_1496
  let v1834 : BitVec 32 := Scalar.addi v1832 v1833
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1497 : BitVec 32 := 1#32
  let v1835 : BitVec 32 := Scalar.muli v11 c1_i32_1497
  let v1836 : BitVec 32 := Scalar.addi v1834 v1835
  v1836.toNat
def k0_dev53 (d0 : Dev nD) : Nat :=
  let c0_i32_1553 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1552 : BitVec 32 := 4#32
  let v1894 : BitVec 32 := Scalar.muli v2 c4_i32_1552
  let v1895 : BitVec 32 := Scalar.addi c0_i32_1553 v1894
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1554 : BitVec 32 := 2#32
  let v1896 : BitVec 32 := Scalar.muli v10 c2_i32_1554
  let v1897 : BitVec 32 := Scalar.addi v1895 v1896
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1555 : BitVec 32 := 1#32
  let v1898 : BitVec 32 := Scalar.muli v8 c1_i32_1555
  let v1899 : BitVec 32 := Scalar.addi v1897 v1898
  v1899.toNat
def k0_dev54 (d0 : Dev nD) : Nat :=
  let c0_i32_1604 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1603 : BitVec 32 := 4#32
  let v1959 : BitVec 32 := Scalar.muli v2 c4_i32_1603
  let v1960 : BitVec 32 := Scalar.addi c0_i32_1604 v1959
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1605 : BitVec 32 := 2#32
  let v1961 : BitVec 32 := Scalar.muli v10 c2_i32_1605
  let v1962 : BitVec 32 := Scalar.addi v1960 v1961
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1606 : BitVec 32 := 1#32
  let v1963 : BitVec 32 := Scalar.muli v8 c1_i32_1606
  let v1964 : BitVec 32 := Scalar.addi v1962 v1963
  v1964.toNat
def k0_dev55 (d0 : Dev nD) : Nat :=
  let c0_i32_1614 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1613 : BitVec 32 := 4#32
  let v1971 : BitVec 32 := Scalar.muli v2 c4_i32_1613
  let v1972 : BitVec 32 := Scalar.addi c0_i32_1614 v1971
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1615 : BitVec 32 := 2#32
  let v1973 : BitVec 32 := Scalar.muli v5 c2_i32_1615
  let v1974 : BitVec 32 := Scalar.addi v1972 v1973
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1616 : BitVec 32 := 1#32
  let v1975 : BitVec 32 := Scalar.muli v11 c1_i32_1616
  let v1976 : BitVec 32 := Scalar.addi v1974 v1975
  v1976.toNat
def k0_dev56 (d0 : Dev nD) : Nat :=
  let c0_i32_1652 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1651 : BitVec 32 := 4#32
  let v2013 : BitVec 32 := Scalar.muli v2 c4_i32_1651
  let v2014 : BitVec 32 := Scalar.addi c0_i32_1652 v2013
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1653 : BitVec 32 := 2#32
  let v2015 : BitVec 32 := Scalar.muli v5 c2_i32_1653
  let v2016 : BitVec 32 := Scalar.addi v2014 v2015
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1654 : BitVec 32 := 1#32
  let v2017 : BitVec 32 := Scalar.muli v11 c1_i32_1654
  let v2018 : BitVec 32 := Scalar.addi v2016 v2017
  v2018.toNat
def k0_dev57 (d0 : Dev nD) : Nat :=
  let c0_i32_1723 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1722 : BitVec 32 := 4#32
  let v2099 : BitVec 32 := Scalar.muli v2 c4_i32_1722
  let v2100 : BitVec 32 := Scalar.addi c0_i32_1723 v2099
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1724 : BitVec 32 := 2#32
  let v2101 : BitVec 32 := Scalar.muli v10 c2_i32_1724
  let v2102 : BitVec 32 := Scalar.addi v2100 v2101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1725 : BitVec 32 := 1#32
  let v2103 : BitVec 32 := Scalar.muli v8 c1_i32_1725
  let v2104 : BitVec 32 := Scalar.addi v2102 v2103
  v2104.toNat
def k0_dev58 (d0 : Dev nD) : Nat :=
  let c0_i32_1733 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1732 : BitVec 32 := 4#32
  let v2111 : BitVec 32 := Scalar.muli v2 c4_i32_1732
  let v2112 : BitVec 32 := Scalar.addi c0_i32_1733 v2111
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1734 : BitVec 32 := 2#32
  let v2113 : BitVec 32 := Scalar.muli v5 c2_i32_1734
  let v2114 : BitVec 32 := Scalar.addi v2112 v2113
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1735 : BitVec 32 := 1#32
  let v2115 : BitVec 32 := Scalar.muli v11 c1_i32_1735
  let v2116 : BitVec 32 := Scalar.addi v2114 v2115
  v2116.toNat
def k0_dev59 (d0 : Dev nD) : Nat :=
  let c0_i32_1791 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1790 : BitVec 32 := 4#32
  let v2174 : BitVec 32 := Scalar.muli v2 c4_i32_1790
  let v2175 : BitVec 32 := Scalar.addi c0_i32_1791 v2174
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1792 : BitVec 32 := 2#32
  let v2176 : BitVec 32 := Scalar.muli v10 c2_i32_1792
  let v2177 : BitVec 32 := Scalar.addi v2175 v2176
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1793 : BitVec 32 := 1#32
  let v2178 : BitVec 32 := Scalar.muli v8 c1_i32_1793
  let v2179 : BitVec 32 := Scalar.addi v2177 v2178
  v2179.toNat
def k0_dev60 (d0 : Dev nD) : Nat :=
  let c0_i32_1842 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1841 : BitVec 32 := 4#32
  let v2239 : BitVec 32 := Scalar.muli v2 c4_i32_1841
  let v2240 : BitVec 32 := Scalar.addi c0_i32_1842 v2239
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1843 : BitVec 32 := 2#32
  let v2241 : BitVec 32 := Scalar.muli v10 c2_i32_1843
  let v2242 : BitVec 32 := Scalar.addi v2240 v2241
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1844 : BitVec 32 := 1#32
  let v2243 : BitVec 32 := Scalar.muli v8 c1_i32_1844
  let v2244 : BitVec 32 := Scalar.addi v2242 v2243
  v2244.toNat
def k0_dev61 (d0 : Dev nD) : Nat :=
  let c0_i32_1852 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1851 : BitVec 32 := 4#32
  let v2251 : BitVec 32 := Scalar.muli v2 c4_i32_1851
  let v2252 : BitVec 32 := Scalar.addi c0_i32_1852 v2251
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1853 : BitVec 32 := 2#32
  let v2253 : BitVec 32 := Scalar.muli v5 c2_i32_1853
  let v2254 : BitVec 32 := Scalar.addi v2252 v2253
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1854 : BitVec 32 := 1#32
  let v2255 : BitVec 32 := Scalar.muli v11 c1_i32_1854
  let v2256 : BitVec 32 := Scalar.addi v2254 v2255
  v2256.toNat
def k0_dev62 (d0 : Dev nD) : Nat :=
  let c0_i32_1890 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1889 : BitVec 32 := 4#32
  let v2293 : BitVec 32 := Scalar.muli v2 c4_i32_1889
  let v2294 : BitVec 32 := Scalar.addi c0_i32_1890 v2293
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1891 : BitVec 32 := 2#32
  let v2295 : BitVec 32 := Scalar.muli v5 c2_i32_1891
  let v2296 : BitVec 32 := Scalar.addi v2294 v2295
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1892 : BitVec 32 := 1#32
  let v2297 : BitVec 32 := Scalar.muli v11 c1_i32_1892
  let v2298 : BitVec 32 := Scalar.addi v2296 v2297
  v2298.toNat
def k0_dev63 (d0 : Dev nD) : Nat :=
  let c0_i32_1961 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1960 : BitVec 32 := 4#32
  let v2379 : BitVec 32 := Scalar.muli v2 c4_i32_1960
  let v2380 : BitVec 32 := Scalar.addi c0_i32_1961 v2379
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1962 : BitVec 32 := 2#32
  let v2381 : BitVec 32 := Scalar.muli v10 c2_i32_1962
  let v2382 : BitVec 32 := Scalar.addi v2380 v2381
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1963 : BitVec 32 := 1#32
  let v2383 : BitVec 32 := Scalar.muli v8 c1_i32_1963
  let v2384 : BitVec 32 := Scalar.addi v2382 v2383
  v2384.toNat
def k0_dev64 (d0 : Dev nD) : Nat :=
  let c0_i32_1971 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1970 : BitVec 32 := 4#32
  let v2391 : BitVec 32 := Scalar.muli v2 c4_i32_1970
  let v2392 : BitVec 32 := Scalar.addi c0_i32_1971 v2391
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1972 : BitVec 32 := 2#32
  let v2393 : BitVec 32 := Scalar.muli v5 c2_i32_1972
  let v2394 : BitVec 32 := Scalar.addi v2392 v2393
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1973 : BitVec 32 := 1#32
  let v2395 : BitVec 32 := Scalar.muli v11 c1_i32_1973
  let v2396 : BitVec 32 := Scalar.addi v2394 v2395
  v2396.toNat
def k0_dev65 (d0 : Dev nD) : Nat :=
  let c0_i32_2029 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2028 : BitVec 32 := 4#32
  let v2454 : BitVec 32 := Scalar.muli v2 c4_i32_2028
  let v2455 : BitVec 32 := Scalar.addi c0_i32_2029 v2454
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_2030 : BitVec 32 := 2#32
  let v2456 : BitVec 32 := Scalar.muli v10 c2_i32_2030
  let v2457 : BitVec 32 := Scalar.addi v2455 v2456
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2031 : BitVec 32 := 1#32
  let v2458 : BitVec 32 := Scalar.muli v8 c1_i32_2031
  let v2459 : BitVec 32 := Scalar.addi v2457 v2458
  v2459.toNat
def k0_dev66 (d0 : Dev nD) : Nat :=
  let c0_i32_2079 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2078 : BitVec 32 := 4#32
  let v2508 : BitVec 32 := Scalar.muli v2 c4_i32_2078
  let v2509 : BitVec 32 := Scalar.addi c0_i32_2079 v2508
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2080 : BitVec 32 := 2#32
  let v2510 : BitVec 32 := Scalar.muli v5 c2_i32_2080
  let v2511 : BitVec 32 := Scalar.addi v2509 v2510
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_2081 : BitVec 32 := 1#32
  let v2512 : BitVec 32 := Scalar.muli v11 c1_i32_2081
  let v2513 : BitVec 32 := Scalar.addi v2511 v2512
  v2513.toNat
def k0_dev67 (d0 : Dev nD) : Nat :=
  let c0_i32_2149 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2148 : BitVec 32 := 4#32
  let v2583 : BitVec 32 := Scalar.muli v2 c4_i32_2148
  let v2584 : BitVec 32 := Scalar.addi c0_i32_2149 v2583
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_2150 : BitVec 32 := 2#32
  let v2585 : BitVec 32 := Scalar.muli v10 c2_i32_2150
  let v2586 : BitVec 32 := Scalar.addi v2584 v2585
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2151 : BitVec 32 := 1#32
  let v2587 : BitVec 32 := Scalar.muli v8 c1_i32_2151
  let v2588 : BitVec 32 := Scalar.addi v2586 v2587
  v2588.toNat
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x2048 : Shape := ⟨3, ![2, 4096, 2048]⟩
abbrev S2048 : Shape := ⟨1, ![2048]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.K.Ops.lean ====
/- The kernel's body as a list of named steps, one constructor per kind of step and the chunk it works on, with the
   equation that the printed body runs exactly this list. -/
module

public import proofs.«01_k».proof.Proof.Gen.KernelIdeal
public import proofs.«01_k».proof.Proof.Gen.KernelIdeal.Launch

@[expose] public section

noncomputable section

namespace Cert.KernelIdeal.Run

open Idealize.ShloMosaic Idealize.ShloMosaic.TcCoe
open Idealize.SL Idealize.SL.Sem
open Cert.KernelIdeal.Gen

variable {F : FTy → Type} [FloatOps F]

/-! ## Places -/

theorem inbC : ∀ i : Fin 16, ∀ a, (![32 * i.val, 0] : Fin 2 → Nat) a + S32x2048.size a ≤ S512x2048.size a := by decide
theorem inbS : ∀ i : Fin 16, ∀ a, (![i.val] : Fin 1 → Nat) a + S1.size a ≤ S16.size a := by decide

/-- Chunk `i` of a buffer of 512 rows: rows `32 i … 32 i + 31`. -/
abbrev rC (i : Fin 16) : Rect S512x2048 := Rect.unit (s := S512x2048) ![32 * i.val, 0] S32x2048.size (inbC i)

theorem wordsC : ∀ i : Fin 16, (rC i).WholeWords (EltTy.packing .bf16) := by decide +kernel
theorem packedC : ∀ i : Fin 16, (rC i).PackedRows (EltTy.packing .bf16) := by decide +kernel

abbrev chunk {e : EltTy} (M : Memref sig .tc .vmem S512x2048 e) (i : Fin 16) : Memref sig .tc .vmem S32x2048 e :=
  M.slice (rC i) (fun _ => rfl)

/-- Semaphore `i` of an array of sixteen. -/
abbrev semAt (A : DmaSems sig S16) (i : Fin 16) : DmaSem sig :=
  ((A.slice (Rect.unit (s := S16) ![i.val] S1.size (inbS i))).squeeze S_ squeezes_S1_S_).sem

/-- The neighbours along the three axes of the mesh. -/
def px (d : Dev nD) : Dev nD := ⟨k0_dev1 d, k0_dev1_lt d⟩
def py (d : Dev nD) : Dev nD := ⟨k0_dev2 d, k0_dev2_lt d⟩
def pz (d : Dev nD) : Dev nD := ⟨k0_dev3 d, k0_dev3_lt d⟩

abbrev word (i : Fin 16) : BitVec 32 := BitVec.ofNat 32 (32 * i.val)

abbrev MA : Memref sig .tc .hbm S1x4096x2048 .f32 := Memref.whole main_arg0
abbrev MO : Memref sig .tc .hbm S2048x2048 .f32 := Memref.whole main_v2
abbrev Mine : Memref sig .tc .vmem S512x2048 .f32 := Memref.whole cc0_scratch0
abbrev Praw : Memref sig .tc .vmem S512x2048 .f32 := Memref.whole cc0_scratch1
abbrev Sbuf : Memref sig .tc .vmem S512x2048 .bf16 := Memref.whole cc0_scratch2
abbrev Xrecv : Memref sig .tc .vmem S512x2048 .bf16 := Memref.whole cc0_scratch3
abbrev Myres : Memref sig .tc .vmem S512x2048 .bf16 := Memref.whole cc0_scratch4
abbrev Yrecv : Memref sig .tc .vmem S512x2048 .bf16 := Memref.whole cc0_scratch5
abbrev Zrecv : Memref sig .tc .vmem S512x2048 .bf16 := Memref.whole cc0_scratch6
abbrev Diag : Memref sig .tc .vmem S512x2048 .bf16 := Memref.whole cc0_scratch7
abbrev StM : Memref sig .tc .vmem S512x2048 .f32 := Memref.whole cc0_scratch8
abbrev StY : Memref sig .tc .vmem S512x2048 .f32 := Memref.whole cc0_scratch9
abbrev StZ : Memref sig .tc .vmem S512x2048 .f32 := Memref.whole cc0_scratch10
abbrev StD : Memref sig .tc .vmem S512x2048 .f32 := Memref.whole cc0_scratch11

/-- The rows of the input that are this device's share of the sum. -/
abbrev mineSrc (d : Dev nD) : Memref sig .tc .hbm S512x2048 .f32 :=
  (MA.slice (Rect.unit (s := S1x4096x2048) (k0_off1 d) S1x512x2048.size (k0_off1_inb d)) (fun _ => rfl)).squeeze S512x2048 squeezes_S1x512x2048_S512x2048
/-- The rows of the input that go to the neighbour along x, chunk by chunk. -/
abbrev prawSrc (d : Dev nD) (i : Fin 16) : Memref sig .tc .hbm S32x2048 .f32 :=
  (MA.slice (Rect.unit (s := S1x4096x2048) (k0_off2 d (word i)) S1x32x2048.size (k0_off2_inb d i)) (fun _ => rfl)).squeeze S32x2048 squeezes_S1x32x2048_S32x2048

/-- The four blocks of the result a device writes: its own, those of its neighbours along y and z, and of the diagonal one. -/
inductive Blk
  | m | y | z | d
  deriving DecidableEq

abbrev outRect (b : Blk) (c : Dev nD) (i : Fin 16) : Rect S2048x2048 :=
  match b with
  | .m => Rect.unit (s := S2048x2048) (k0_off3 c (word i)) S32x2048.size (k0_off3_inb c i)
  | .y => Rect.unit (s := S2048x2048) (k0_off4 c (word i)) S32x2048.size (k0_off4_inb c i)
  | .z => Rect.unit (s := S2048x2048) (k0_off5 c (word i)) S32x2048.size (k0_off5_inb c i)
  | .d => Rect.unit (s := S2048x2048) (k0_off6 c (word i)) S32x2048.size (k0_off6_inb c i)

def outC (b : Blk) (c : Dev nD) (i : Fin 16) : Memref sig .tc .hbm S32x2048 .f32 :=
  match b with
  | .m => MO.slice (Rect.unit (s := S2048x2048) (k0_off3 c (word i)) S32x2048.size (k0_off3_inb c i)) (fun _ => rfl)
  | .y => MO.slice (Rect.unit (s := S2048x2048) (k0_off4 c (word i)) S32x2048.size (k0_off4_inb c i)) (fun _ => rfl)
  | .z => MO.slice (Rect.unit (s := S2048x2048) (k0_off5 c (word i)) S32x2048.size (k0_off5_inb c i)) (fun _ => rfl)
  | .d => MO.slice (Rect.unit (s := S2048x2048) (k0_off6 c (word i)) S32x2048.size (k0_off6_inb c i)) (fun _ => rfl)

/-- The staging buffer of each block. -/
def stg : Blk → Memref sig .tc .vmem S512x2048 .f32
  | .m => StM | .y => StY | .z => StZ | .d => StD
def outSem : Blk → Fin 16 → DmaSem sig
  | .m, i => semAt cc0_scratch22 i | .y, i => semAt cc0_scratch23 i | .z, i => semAt cc0_scratch24 i | .d, i => semAt cc0_scratch25 i
theorem outC_words (b : Blk) (c : Dev nD) (i : Fin 16) : (outC b c i).view.WordExact := by
  cases b <;> exact View.wordExact_bits rfl
theorem stg_words (b : Blk) (i : Fin 16) : (chunk (stg b) i).view.WordExact := by
  cases b <;> exact View.wordExact_bits rfl

/-- The pieces of a chunk of sums, normalised: the value each device computes. -/
def resVal (a : FVec F S32x2048 .f32) (b : FVec F S32x2048 .bf16) (g : FVec F S1x2048 .f32) : FVec F S32x2048 .f32 :=
  let v515 : FVec F S32x2048 .f32 := addf a (extf .f32 b bitsLt_bf16_f32)
  let v516 := mulf v515 v515
  let v517 : FVec F S32 .f32 := multiReduction .add [1] S32 v516 0x00000000#32 reduces_S32x2048_S32 (.inl rfl) rfl
  let v518 : FVec F S32x1 .f32 := shapeCast S32x1 v517 shapeCasts_S32_S32x1
  let v519 : FVec F S32x1 .f32 := broadcast S32x1 (Scalar.ofBits .f32 0x45000000#32)
  let v520 := divf v518 v519
  let v521 : FVec F S32x1 .f32 := broadcast S32x1 (Scalar.ofBits .f32 0x358637BD#32)
  let v522 := addf v520 v521
  let v523 := rsqrt v522
  let v524 : FVec F S32x2048 .f32 := broadcastTo S32x2048 v523 broadcasts_S32x1_S32x2048
  let v525 := mulf v515 v524
  let v527 : FVec F S1x2048 .f32 := shapeCast S1x2048 g shapeCasts_S1x2048_S1x2048
  let v528 : FVec F S32x2048 .f32 := broadcastTo S32x2048 v527 broadcasts_S1x2048_S32x2048
  mulf v525 v528

def down (v : FVec F S32x2048 .f32) : FVec F S32x2048 .bf16 := shapeCast S32x2048 (truncf .bf16 v bitsLt_bf16_f32) shapeCasts_S32x2048_S32x2048
def up (v : FVec F S32x2048 .bf16) : FVec F S32x2048 .f32 := shapeCast S32x2048 (extf .f32 v bitsLt_bf16_f32) shapeCasts_S32x2048_S32x2048
def same (v : FVec F S32x2048 .f32) : FVec F S32x2048 .f32 := shapeCast S32x2048 v shapeCasts_S32x2048_S32x2048

/-! ## Steps -/

variable (F) in
abbrev Pr := Prog (TpuEff nD τ sig (Elt F) Λ₀ .tc) PUnit

/-- Which of the buffers of sixteen-bit chunks a step uses. -/
inductive Buf16
  | s | x | r | y | z | d
  deriving DecidableEq

def Buf16.ref : Buf16 → Memref sig .tc .vmem S512x2048 .bf16
  | .s => Sbuf | .x => Xrecv | .r => Myres | .y => Yrecv | .z => Zrecv | .d => Diag
theorem Buf16.whole (b : Buf16) : b.ref.IsWhole := by cases b <;> exact Memref.isWhole_whole _
theorem Buf16.words (b : Buf16) (i : Fin 16) : (chunk b.ref i).view.WordExact := b.whole.wordExact_slice rfl _ (wordsC i)

/-- The five transfers between devices: the chunk sent, where it lands, the two semaphores and the neighbour. -/
inductive Ch
  | x | y | z | fz | fy
  deriving DecidableEq

def Ch.src : Ch → Buf16
  | .x => .s | .y => .r | .z => .r | .fz => .y | .fy => .z
def Ch.dst : Ch → Buf16
  | .x => .x | .y => .y | .z => .z | .fz => .d | .fy => .d
def Ch.peer : Ch → Dev nD → Dev nD
  | .x => px | .y => py | .z => pz | .fz => pz | .fy => py
def Ch.sS : Ch → Fin 16 → DmaSem sig
  | .x, i => semAt cc0_scratch12 i | .y, i => semAt cc0_scratch14 i | .z, i => semAt cc0_scratch16 i
  | .fz, i => semAt cc0_scratch18 i | .fy, i => semAt cc0_scratch18 i
def Ch.sR : Ch → Fin 16 → DmaSem sig
  | .x, i => semAt cc0_scratch13 i | .y, i => semAt cc0_scratch15 i | .z, i => semAt cc0_scratch17 i
  | .fz, i => semAt cc0_scratch19 i | .fy, i => semAt cc0_scratch19 i

def send (h : Ch) (d : Dev nD) (i : Fin 16) (k : Pr F) : Pr F :=
  .op (.enqueueDma (chunk h.src.ref i) (.remote (Dev.tc (h.peer d)) (chunk h.dst.ref i) (.dma (h.sS i))) (.dma (h.sR i))
    (h.src.words i) (h.dst.words i) ⟨⟨rfl, Or.inl rfl⟩, trivial⟩) fun _ => k

/-- Wait for the chunk that channel `h` brings. The wait names the source the neighbour sends from, by its amount only. -/
def arrive (h : Ch) (i : Fin 16) (k : Pr F) : Pr F :=
  .op (.waitDma2 (h.sR i) (chunk h.src.ref i) (chunk h.dst.ref i) (h.src.words i) (h.dst.words i)) fun _ => k

/-- Wait for channel `h`'s own send of chunk `i` to have read its source. -/
def sent (h : Ch) (i : Fin 16) (k : Pr F) : Pr F :=
  .op (.waitDma2 (h.sS i) (chunk h.dst.ref i) (chunk h.src.ref i) (h.dst.words i) (h.src.words i)) fun _ => k

/-- Copy chunk `i` of a staging buffer to the result. -/
def put (b : Blk) (d : Dev nD) (i : Fin 16) (k : Pr F) : Pr F :=
  .op (.enqueueDma (chunk (stg b) i) (.here (outC b d i)) (.dma (outSem b i)) (stg_words b i) (outC_words b d i) ⟨Or.inl rfl, trivial⟩) fun _ => k
def putDone (b : Blk) (d : Dev nD) (i : Fin 16) (k : Pr F) : Pr F :=
  .op (.waitDma2 (outSem b i) (chunk (stg b) i) (outC b d i) (stg_words b i) (outC_words b d i)) fun _ => k

def load16 (b : Buf16) (i : Fin 16) (k : FVec F S32x2048 .bf16 → Pr F) : Pr F :=
  .op (.load (e := .bf16) b.ref (rC i).toLoadRect (View.loadsAt_vmem h_S32x2048)) k
def store16 (b : Buf16) (i : Fin 16) (v : FVec F S32x2048 .bf16) (k : Pr F) : Pr F :=
  .op (.store b.ref (rC i) v Finset.univ (View.stores_vmem h_S32x2048 (b.whole.storeExact_slice rfl _ (packedC i)) (fun _ => rfl)) (.inl rfl)) fun _ => k
def load32 (M : Memref sig .tc .vmem S512x2048 .f32) (i : Fin 16) (k : FVec F S32x2048 .f32 → Pr F) : Pr F :=
  .op (.load (e := .f32) M (rC i).toLoadRect (View.loadsAt_vmem h_S32x2048)) k
def store32 (M : Memref sig .tc .vmem S512x2048 .f32) (i : Fin 16) (v : FVec F S32x2048 .f32) (k : Pr F) : Pr F :=
  .op (.store M (rC i) v Finset.univ (View.stores_vmem_bits_univ h_S32x2048 rfl) (.inl rfl)) fun _ => k
def loadG (g : Memref sig .tc .vmem S1x2048 .f32) (k : FVec F S1x2048 .f32 → Pr F) : Pr F :=
  .op (.load (e := .f32) g (Rect.unit (s := S1x2048) ![0, 0] S1x2048.size inb_S1x2048_S1x2048_0_0).toLoadRect (View.loadsAt_vmem h_S1x2048)) k

/-- The sum of a chunk, normalised: kept, and sent along y and z. -/
def comp (g : Memref sig .tc .vmem S1x2048 .f32) (d : Dev nD) (i : Fin 16) (k : Pr F) : Pr F :=
  load32 Mine i fun a => load16 .x i fun b => loadG g fun w => load16 .r i fun _ =>
  store16 .r i (down (resVal a b w)) <| send .y d i <| send .z d i <|
  load32 (stg .m) i fun _ => store32 (stg .m) i (same (resVal a b w)) k

/-- A chunk received, widened, into the staging buffer of its block. -/
def stage (s : Buf16) (b : Blk) (i : Fin 16) (k : Pr F) : Pr F :=
  load16 s i fun v => load32 (stg b) i fun _ => store32 (stg b) i (up v) k

/-- A chunk of rows for the neighbour along x, rounded. -/
def prep (i : Fin 16) (k : Pr F) : Pr F :=
  load32 Praw i fun v => load16 .s i fun _ => store16 .s i (down v) k

def mineGo (d : Dev nD) (k : Pr F) : Pr F :=
  .op (.enqueueDma (mineSrc d) (.here Mine) (.dma cc0_scratch21.sem) ((View.wordExact_bits rfl).reshape _ _) (Memref.isWhole_whole cc0_scratch0).wordExact ⟨Or.inl rfl, trivial⟩) fun _ => k
def mineDone (d : Dev nD) (k : Pr F) : Pr F :=
  .op (.waitDma2 cc0_scratch21.sem (mineSrc d) Mine ((View.wordExact_bits rfl).reshape _ _) (Memref.isWhole_whole cc0_scratch0).wordExact) fun _ => k
def rawGo (d : Dev nD) (i : Fin 16) (k : Pr F) : Pr F :=
  .op (.enqueueDma (prawSrc d i) (.here (chunk Praw i)) (.dma (semAt cc0_scratch20 i)) ((View.wordExact_bits rfl).reshape _ _) (View.wordExact_bits rfl) ⟨Or.inl rfl, trivial⟩) fun _ => k
def rawDone (d : Dev nD) (i : Fin 16) (k : Pr F) : Pr F :=
  .op (.waitDma2 (semAt cc0_scratch20 i) (prawSrc d i) (chunk Praw i) ((View.wordExact_bits rfl).reshape _ _) (View.wordExact_bits rfl)) fun _ => k

/-- The barrier's semaphore. -/
abbrev barS : Sem sig := (SemArray.scalar (sig.barrier 0 rfl) : Sems sig S_).sem

inductive Op
  | mineGo | mineDone
  | rawGo (i : Fin 16) | rawDone (i : Fin 16)
  | bar (h : Fin 3) | meet
  | prep (i : Fin 16)
  | send (h : Ch) (i : Fin 16)
  | arrive (h : Ch) (i : Fin 16)
  | sent (h : Ch) (i : Fin 16)
  | comp (i : Fin 16)
  | stage (s : Buf16) (b : Blk) (i : Fin 16)
  | put (b : Blk) (i : Fin 16)
  | putDone (b : Blk) (i : Fin 16)

def barPeer : Fin 3 → Dev nD → Dev nD
  | 0 => px | 1 => py | 2 => pz

def Op.run (g : Memref sig .tc .vmem S1x2048 .f32) (d : Dev nD) : Op → Pr F → Pr F
  | .mineGo, k => Run.mineGo d k
  | .mineDone, k => Run.mineDone d k
  | .rawGo i, k => Run.rawGo d i k
  | .rawDone i, k => Run.rawDone d i k
  | .bar h, k => semSignalWord (barPeer h d) barS 1#32 >>= fun _ => k
  | .meet, k => semWaitWord barS 3#32 >>= fun _ => k
  | .prep i, k => Run.prep i k
  | .send h i, k => Run.send h d i k
  | .arrive h i, k => Run.arrive h i k
  | .sent h i, k => Run.sent h i k
  | .comp i, k => Run.comp g d i k
  | .stage s b i, k => Run.stage s b i k
  | .put b i, k => Run.put b d i k
  | .putDone b i, k => Run.putDone b d i k

def runOps (g : Memref sig .tc .vmem S1x2048 .f32) (d : Dev nD) : List Op → Pr F
  | [] => .ret ⟨⟩
  | o :: os => o.run g d (runOps g d os)

/-! ## The list -/

def all16 : List (Fin 16) := [0, 1, 2, 3, 4, 5, 6, 7, 8, 9, 10, 11, 12, 13, 14, 15]

def fwd (i : Fin 16) : Ch := if i.val % 2 = 0 then .fz else .fy
def drainY (i : Fin 16) : List Op := [.arrive .y i, .stage .y .y i, .put .y i] ++ if i.val % 2 = 0 then [.send .fz i] else []
def drainZ (i : Fin 16) : List Op := [.arrive .z i, .stage .z .z i, .put .z i] ++ if i.val % 2 = 0 then [] else [.send .fy i]
def drainD (i : Fin 16) : List Op := [.arrive (fwd i) i, .stage .d .d i, .put .d i]

def before (n : Nat) (i : Fin 16) (f : Fin 16 → List Op) : List Op :=
  if h : n ≤ i.val then f ⟨i.val - n, by omega⟩ else []

def mainPart : List Op := all16.flatMap fun i =>
  [.arrive .x i, .comp i, .put .m i] ++ before 2 i (fun j => drainY j ++ drainZ j) ++ before 7 i drainD

def puts (l : List Op) : List Op := l.flatMap fun
  | .put b i => [.putDone b i]
  | _ => []

def firstPart : List Op :=
  [.mineGo] ++ all16.map .rawGo ++ [.bar 0, .bar 1, .bar 2, .meet]
  ++ all16.flatMap (fun i => [.rawDone i, .prep i, .send .x i]) ++ [.mineDone]
  ++ mainPart ++ drainY 14 ++ drainZ 14 ++ drainY 15 ++ drainZ 15
  ++ [9, 10, 11, 12, 13, 14, 15].flatMap drainD

def program : List Op := firstPart
  ++ all16.map (.sent .x) ++ all16.map (.sent .y) ++ all16.map (.sent .z) ++ all16.map (fun i => .sent (fwd i) i)
  ++ puts firstPart

set_option maxRecDepth 65536 in
/-- The printed body runs the list. -/
theorem body_eq (g : Memref sig .tc .vmem S1x2048 .f32) (hg : g.IsWhole) :
    cc0_body (F := F) (Memref.whole main_arg0) (Memref.isWhole_whole _) g hg (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25
      = (.op .deviceId fun d => runOps g d program) := by
  chain_rfl

end Cert.KernelIdeal.Run

end
-- ==== Proof.K.Tok.lean ====
/- What the run's cells hand over: the contents of every chunk, the tokens a device holds between two steps, and the
   schedule of the cells, one round each. -/
module

public import proofs.«01_k».proof.Proof.K.Ops
public import Idealize.ShloMosaic.Lib.Rounds
public import Idealize.ShloMosaic.Lib.MemrefSat
public import Idealize.ShloMosaic.Lib.Pipeline.BigSepL
public import Idealize.ShloMosaic.Lib.Pipeline.Regions
public import Idealize.ShloMosaic.Lib.Pipeline.Kit
public import Idealize.ShloMosaic.Lib.Pipeline.RegionTalk

@[expose] public section

noncomputable section

namespace Cert.KernelIdeal.Run

open Idealize.ShloMosaic Idealize.ShloMosaic.TcCoe
open Idealize.SL Idealize.SL.RA Idealize.SL.Sem Idealize.SL.ProofMode
open Idealize.SL.BI (sProp bigSep bigSepL)
open scoped Idealize.SL.BI
open Idealize.SL.BI.BIBase Idealize.SL.BI.Laws
open Idealize.ShloMosaic.Rounds

open Cert.KernelIdeal.Gen

variable {F : FTy → Type} [FloatOps F]

/-- The resources: the pipeline's own, and the cells of this kernel. -/
abbrev UU : Type := UR sig nD τ × URounds (GSem nD τ sig) (Fin 3)

local notation "𝕄" => MT nD τ sig Unit (Elt F) ℕ UU ℕ

variable (F) in
abbrev EP : Emb (UR sig nD τ) (MT nD τ sig Unit (Elt F) ℕ UU ℕ) := embL
variable (F) in
abbrev ER : Emb (URounds (GSem nD τ sig) (Fin 3)) (MT nD τ sig Unit (Elt F) ℕ UU ℕ) := embR

/-! ## Contents -/

variable (F) in
/-- What the kernel reads: each device's input, its scale, and the memref the scale is staged in. -/
structure Inp where
  A : (c : Dev nD) → Buf (Elt F) ((c : Thread nD τ).loc main_arg0)
  g : Memref sig .tc .vmem S1x2048 .f32
  G : Dev nD → S1x2048.Idx → Elt F .f32

variable (I : Inp F)

def mineV (c : Dev nD) : FVec F S512x2048 .f32 := (mineSrc c).view.read (Elt F) (I.A c)
def mineC (c : Dev nD) (i : Fin 16) : FVec F S32x2048 .f32 := fun j => mineV I c ((rC i).emb j)
def rawV (c : Dev nD) (i : Fin 16) : FVec F S32x2048 .f32 := (prawSrc c i).view.read (Elt F) (I.A c)
def gamV (c : Dev nD) : FVec F S1x2048 .f32 := fun j => I.G c ((Rect.unit (s := S1x2048) ![0, 0] S1x2048.size inb_S1x2048_S1x2048_0_0).emb j)
def sV (c : Dev nD) (i : Fin 16) : FVec F S32x2048 .bf16 := down (rawV I c i)
def resV (c : Dev nD) (i : Fin 16) : FVec F S32x2048 .f32 := resVal (mineC I c i) (sV I (px c) i) (gamV I c)
def rV (c : Dev nD) (i : Fin 16) : FVec F S32x2048 .bf16 := down (resV I c i)
/-- What chunk `i` of each sixteen-bit buffer holds once it is filled. -/
def val : Buf16 → Dev nD → Fin 16 → FVec F S32x2048 .bf16
  | .s, c, i => sV I c i
  | .x, c, i => sV I (px c) i
  | .r, c, i => rV I c i
  | .y, c, i => rV I (py c) i
  | .z, c, i => rV I (pz c) i
  | .d, c, i => if i.val % 2 = 0 then rV I (py (pz c)) i else rV I (pz (py c)) i

def Blk.buf : Blk → Buf16
  | .m => .r | .y => .y | .z => .z | .d => .d
/-- What a device writes to each block of its result. -/
def outV (b : Blk) (c : Dev nD) (i : Fin 16) : FVec F S32x2048 .f32 :=
  match b with
  | .m => same (resV I c i)
  | b => up (val I b.buf c i)

/-! ## Cells -/

inductive Ln
  | x | y | z | f
  deriving DecidableEq

def lns : List Ln := [.x, .y, .z, .f]
def blks : List Blk := [.m, .y, .z, .d]
def bufs : List Buf16 := [.s, .x, .r, .y, .z, .d]
def chs : List Ch := [.x, .y, .z, .fz, .fy]
instance : Fintype Ln := ⟨lns.toFinset, fun a => by cases a <;> decide⟩
instance : Fintype Blk := ⟨blks.toFinset, fun a => by cases a <;> decide⟩
instance : Fintype Buf16 := ⟨bufs.toFinset, fun a => by cases a <;> decide⟩
instance : Fintype Ch := ⟨chs.toFinset, fun a => by cases a <;> decide⟩

inductive CK
  | sS (l : Ln) | sR (l : Ln) | raw | mine | out (b : Blk)
  deriving DecidableEq
def cks : List CK := lns.map .sS ++ lns.map .sR ++ blks.map .out ++ [.raw, .mine]
instance : Fintype CK := ⟨cks.toFinset, fun a => by rcases a with l | l | _ | _ | l <;> (try cases l) <;> decide⟩

def Ln.num : Ln → ℕ
  | .x => 0 | .y => 1 | .z => 2 | .f => 3
def Blk.num : Blk → ℕ
  | .m => 0 | .y => 1 | .z => 2 | .d => 3
def Ch.ln : Ch → Ln
  | .x => .x | .y => .y | .z => .z | .fz => .f | .fy => .f
def Ln.ch : Ln → Fin 16 → Ch
  | .x, _ => .x | .y, _ => .y | .z, _ => .z | .f, i => fwd i

/-- The number of a cell's semaphore. -/
def CK.num : CK → ℕ → ℕ
  | .sS l, i => 1 + 32 * l.num + i
  | .sR l, i => 17 + 32 * l.num + i
  | .raw, i => 129 + i
  | .mine, _ => 145
  | .out b, i => 146 + 16 * b.num + i
theorem CK.num_lt (k : CK) (i : Fin 16) : k.num i.val < 210 := by revert k i; decide
def CK.sem (k : CK) (i : Fin 16) : DmaSem sig := ⟨k.num i.val, k.num_lt i⟩
def CK.ok (k : CK) (i : Fin 16) : Bool := match k with | .mine => i.val = 0 | _ => true

def lnOf : ℕ → Ln
  | 0 => .x | 1 => .y | 2 => .z | _ => .f
def blkOf : ℕ → Blk
  | 0 => .m | 1 => .y | 2 => .z | _ => .d
def fin16 (n : ℕ) : Fin 16 := ⟨n % 16, Nat.mod_lt _ (by decide)⟩
def decode (n : ℕ) : Option (CK × Fin 16) :=
  if n = 0 then none
  else if n < 129 then some (if (n - 1) / 16 % 2 = 0 then .sS (lnOf ((n - 1) / 32)) else .sR (lnOf ((n - 1) / 32)), fin16 (n - 1))
  else if n < 145 then some (.raw, fin16 (n - 129))
  else if n = 145 then some (.mine, 0)
  else some (.out (blkOf ((n - 146) / 16)), fin16 (n - 146))
theorem decode_sem : ∀ (k : CK) (i : Fin 16), k.ok i = true → decode (k.sem i).val = some (k, i) := by decide +kernel

abbrev cell (c : Dev nD) (k : CK) (i : Fin 16) : GSem nD τ sig := ((c : Thread nD τ), .dma (k.sem i))
abbrev barCell (c : Dev nD) : GSem nD τ sig := ((c : Thread nD τ), .reg barS)

def N16 : ℕ := (chunk Sbuf 0).view.dmaCredit
def N32 : ℕ := (chunk Praw 0).view.dmaCredit
def NMine : ℕ := Mine.view.dmaCredit
theorem N16_pos : 0 < N16 := View.dmaCredit_pos _ (by decide)
theorem N32_pos : 0 < N32 := View.dmaCredit_pos _ (by decide)
theorem NMine_pos : 0 < NMine := View.dmaCredit_pos _ (by decide)
def CK.amt : CK → ℕ
  | .sS _ => N16 | .sR _ => N16 | .raw => N32 | .mine => NMine | .out _ => N32
theorem CK.amt_pos : ∀ k : CK, 0 < k.amt
  | .sS _ => N16_pos | .sR _ => N16_pos | .raw => N32_pos | .mine => NMine_pos | .out _ => N32_pos

/-! ## Tokens -/

inductive Kind
  | any (b : Buf16) | full (b : Buf16) | half (z : Bool) | dst (h : Ch)
  | stAny (b : Blk) | stHas (b : Blk) | outAny (b : Blk) | outHas (b : Blk)
  | rawAny | rawHas | rawSrc | mineAny | mineHas | mineSrc | gam
  | duty (k : CK) | peer (h : Ch) | cred (k : CK) | pos (k : CK) | zero (k : CK)
  | barDuty | barCred | barPos | barZero | give
  deriving DecidableEq

abbrev Tok : Type := Kind × Fin 16

def evens : List (Fin 16) := [0, 2, 4, 6, 8, 10, 12, 14]
def odds : List (Fin 16) := [1, 3, 5, 7, 9, 11, 13, 15]
/-- What the neighbour along an axis hands over at the barrier: the chunks it is sent to. -/
def landing : Fin 3 → List Tok
  | 0 => all16.map fun i => (.dst .x, i)
  | 1 => all16.map (fun i => (.dst .y, i)) ++ odds.map fun i => (.dst .fy, i)
  | 2 => all16.map (fun i => (.dst .z, i)) ++ evens.map fun i => (.dst .fz, i)

abbrev ow (c : Dev nD) {sp : Space} {s : Shape} {e : EltTy} (M : Memref sig .tc sp s e) (q : PosShare TreeShare) (X : s.Idx → Elt F e) : sProp 𝕄 :=
  ownsTc c M q X
abbrev owAny (c : Dev nD) {sp : Space} {s : Shape} {e : EltTy} (M : Memref sig .tc sp s e) : sProp 𝕄 :=
  iprop(∃ X, ownsTc c M fullShare X)

/-- The shares of the input: one per transfer out of it. -/
def shr : ℕ → PosShare TreeShare
  | 0 => fullShare
  | n + 1 => (shr n).right

def srcPt (c : Dev nD) {s : Shape} (M : Memref sig .tc .hbm s .f32) (q : PosShare TreeShare) (f : Buf (Elt F) (M.view.loc (c : Thread nD τ))) : sProp 𝕄 :=
  M.view.loc (c : Thread nD τ) ↦[M.view.set]{q} f

def rawPt (c : Dev nD) (i : Fin 16) : sProp 𝕄 := srcPt c (prawSrc c i) (shr (i.val + 1)).left (I.A c)
def minePt (c : Dev nD) : sProp 𝕄 := srcPt c (mineSrc c) (shr 0).left (I.A c)

/-- What a device holds for each token, but for those it gives at the barrier. -/
def R0 (c : Dev nD) : Tok → sProp 𝕄
  | (.any b, i) => owAny c (chunk b.ref i)
  | (.full b, i) => ow c (chunk b.ref i) fullShare (val I b c i)
  | (.half z, i) => ow c (chunk Myres i) (if z then fullShare.right else fullShare.left) (val I .r c i)
  | (.dst h, i) => iprop(owAny (h.peer c) (chunk h.dst.ref i) ∗ reached (ER F) (cell (h.peer c) (.sR h.ln) i) 0)
  | (.stAny b, i) => owAny c (chunk (stg b) i)
  | (.stHas b, i) => ow c (chunk (stg b) i) fullShare (outV I b c i)
  | (.outAny b, i) => owAny c (outC b c i)
  | (.outHas b, i) => ow c (outC b c i) fullShare (outV I b c i)
  | (.rawAny, i) => owAny c (chunk Praw i)
  | (.rawHas, i) => ow c (chunk Praw i) fullShare (rawV I c i)
  | (.rawSrc, i) => rawPt I c i
  | (.mineAny, _) => owAny c Mine
  | (.mineHas, _) => ow c Mine fullShare (mineV I c)
  | (.mineSrc, _) => minePt I c
  | _ => iprop(emp)

def barPeerI (i : Fin 16) : Fin 3 := ⟨i.val % 3, Nat.mod_lt _ (by decide)⟩

/-- What a device holds for each token. -/
def R (c : Dev nD) : Tok → sProp 𝕄
  | (.gam, _) => ow c I.g fullShare (I.G c)
  | (.duty k, i) => iprop(dutyTok (ER F) (cell c k i) 0 0 ∗ reached (ER F) (cell c k i) 0)
  | (.peer h, i) => dutyTok (ER F) (cell (h.peer c) (.sR h.ln) i) 0 0
  | (.cred k, i) => Idealize.ShloMosaic.cred (tallyAt (cell c k i) () k.amt)
  | (.pos k, i) => atPos (ER F) (cell c k i) 0 ∅ 0
  | (.zero k, i) => semVal (cell c k i) 0
  | (.barDuty, i) => iprop(dutyTok (ER F) (barCell (barPeer (barPeerI i) c)) 0 (barPeerI i) ∗ reached (ER F) (barCell (barPeer (barPeerI i) c)) 0)
  | (.barCred, _) => Idealize.ShloMosaic.cred (tallyAt (barCell c) () 3)
  | (.barPos, _) => atPos (ER F) (barCell c) 0 ∅ 0
  | (.barZero, _) => semVal (barCell c) 0
  | (.give, i) => bigSepL (landing (barPeerI i)) (R0 I (barPeer (barPeerI i) c))
  | t => R0 I c t

/-- The token of a chunk being sent. -/
def Ch.tok : Ch → Fin 16 → Tok
  | .x, i => (.full .s, i) | .y, i => (.half false, i) | .z, i => (.half true, i) | .fz, i => (.full .y, i) | .fy, i => (.full .z, i)

/-- What a cell hands to the device that waits on it. -/
def payToks : CK → Fin 16 → List Tok
  | .sS l, i => [(l.ch i).tok i]
  | .sR l, i => [(.full (l.ch i).dst, i)]
  | .raw, i => [(.rawHas, i), (.rawSrc, i)]
  | .mine, i => [(.mineHas, i), (.mineSrc, i)]
  | .out b, i => [(.outHas b, i), (.stHas b, i)]

/-! ## The schedule -/

def Rd : Schedule (GSem nD τ sig) (Fin 3) 𝕄 where
  duties g r := if r = 0 ∧ g.1.2 = .tc then (match g.2 with | .reg _ => Finset.univ | .dma s => if (decode s.val).isSome then {0} else ∅) else ∅
  unitless _ := False
  amount g _ _ := match g.2 with | .reg _ => 1 | .dma s => (match decode s.val with | some p => p.1.amt | none => 1)
  payload g _ d := match g.2 with
    | .reg _ => bigSepL (landing d) (R0 I g.1.1)
    | .dma s => (match decode s.val with | some p => bigSepL (payToks p.1 p.2) (R0 I g.1.1) | none => iprop(emp))
  amount_pos g r d _ := by
    dsimp only
    split
    · exact Nat.one_pos
    · split
      · exact CK.amt_pos _
      · exact Nat.one_pos

instance R0_storable (c : Dev nD) (t : Tok) : BI.Storable (upEmb : UEmb _ 𝕄) (R0 I c t) := by
  unfold R0 rawPt minePt srcPt owAny ow
  split <;> infer_instance

instance bigSepL_storable (c : Dev nD) : ∀ l : List Tok, BI.Storable (upEmb : UEmb _ 𝕄) (bigSepL l (R0 I c))
  | [] => inferInstanceAs (BI.Storable (upEmb : UEmb _ 𝕄) iprop(emp))
  | t :: l => by rw [BI.bigSepL_cons']; have := bigSepL_storable c l; infer_instance

instance Rd_storable (g : GSem nD τ sig) (r : ℕ) (d : Fin 3) : BI.Storable (upEmb : UEmb _ 𝕄) ((Rd I).payload g r d) := by
  unfold Rd
  dsimp only
  split
  · infer_instance
  · split <;> infer_instance

theorem duties_bar (c : Dev nD) : (Rd I).duties (barCell c) 0 = Finset.univ := by dsimp only [Rd]; exact if_pos ⟨rfl, rfl⟩
theorem duties_cell (c : Dev nD) (k : CK) (i : Fin 16) (h : k.ok i = true) : (Rd I).duties (cell c k i) 0 = {0} := by
  dsimp only [Rd]; rw [if_pos ⟨rfl, rfl⟩, decode_sem k i h]; rfl
theorem duties_later (g : GSem nD τ sig) : ∀ r, 1 ≤ r → (Rd I).duties g r = ∅ := fun r hr => by
  dsimp only [Rd]; exact if_neg fun h => by omega
theorem amount_bar (c : Dev nD) (d : Fin 3) : (Rd I).amount (barCell c) 0 d = 1 := rfl
theorem amount_cell (c : Dev nD) (k : CK) (i : Fin 16) (h : k.ok i = true) (d : Fin 3) : (Rd I).amount (cell c k i) 0 d = k.amt := by
  dsimp only [Rd]; rw [decode_sem k i h]
theorem expect_bar (c : Dev nD) : (Rd I).expect (barCell c) 0 = 3 := by
  unfold Schedule.expect Schedule.amountOf; rw [duties_bar]; rfl
theorem expect_cell (c : Dev nD) (k : CK) (i : Fin 16) (h : k.ok i = true) : (Rd I).expect (cell c k i) 0 = k.amt := by
  unfold Schedule.expect Schedule.amountOf; rw [duties_cell I c k i h, Finset.sum_singleton, amount_cell I c k i h]
theorem payload_bar (c : Dev nD) (d : Fin 3) : (Rd I).payload (barCell c) 0 d = bigSepL (landing d) (R0 I c) := rfl
theorem payload_cell (c : Dev nD) (k : CK) (i : Fin 16) (h : k.ok i = true) (d : Fin 3) :
    (Rd I).payload (cell c k i) 0 d = bigSepL (payToks k i) (R0 I c) := by
  dsimp only [Rd]; rw [decode_sem k i h]
theorem rest_cell (c : Dev nD) (k : CK) (i : Fin 16) (h : k.ok i = true) :
    bigSep ((Rd I).duties (cell c k i) 0 \ ∅) (fun d => (Rd I).payload (cell c k i) 0 d) = bigSepL (payToks k i) (R0 I c) := by
  rw [Finset.sdiff_empty, duties_cell I c k i h, BI.bigSep_singleton, payload_cell I c k i h]

end Cert.KernelIdeal.Run

end
-- ==== Proof.K.Steps.lean ====
/- One lemma per kind of step: from the tokens it takes to the tokens it leaves. -/
module

public import proofs.«01_k».proof.Proof.K.Tok
public import Idealize.ShloMosaic.Lib.Tactic

@[expose] public section

noncomputable section

namespace Cert.KernelIdeal.Run

open Idealize.ShloMosaic Idealize.ShloMosaic.TcCoe
open Idealize.SL Idealize.SL.RA Idealize.SL.Sem Idealize.SL.ProofMode
open Idealize.SL.BI (sProp bigSep bigSepL)
open scoped Idealize.SL.BI
open Idealize.SL.BI.BIBase Idealize.SL.BI.Laws
open Idealize.ShloMosaic.Rounds
open Cert.KernelIdeal.Gen

variable {F : FTy → Type} [FloatOps F]

local notation "𝕄" => MT nD τ sig Unit (Elt F) ℕ UU ℕ

theorem bigSepL_nil' {J : Type} (Φ : J → sProp 𝕄) : bigSepL [] Φ = iprop(emp) := rfl

/-! ## Levels, and what is owed -/

def rlev : Ln → ℕ → ℕ
  | .x, i => 2 + i | .y, i => 18 + 4 * i | .z, i => 19 + 4 * i | .f, i => 28 + 4 * i
def L (g : GSem nD τ sig) : Finset Unit := if g.1.2 = .tc then {()} else ∅
def lv (g : GSem nD τ sig) (_ : Unit) : ℕ := match g.2 with
  | .reg _ => 1
  | .dma s => (match decode s.val with | some (.sR l, i) => rlev l i.val | _ => 0)
def CK.lev : CK → Fin 16 → ℕ
  | .sR l, i => rlev l i.val | _, _ => 0
theorem lv_cell (c : Dev nD) (k : CK) (i : Fin 16) (h : k.ok i = true) : lv (cell c k i) () = k.lev i := by
  dsimp only [lv]; rw [decode_sem k i h]; cases k <;> rfl
theorem lv_bar (c : Dev nD) : lv (barCell c) () = 1 := rfl
theorem L_tc (c : Dev nD) (sm : SemLoc sig) : L ((c : Thread nD τ), sm) = {()} := if_pos rfl

/-- A payment to another device still to be made: a barrier unit, or the credit of a chunk. -/
inductive Pend
  | bar (k : Fin 3) | rem (h : Ch) (i : Fin 16)
  deriving DecidableEq
def Pend.cell (c : Dev nD) : Pend → GSem nD τ sig
  | .bar k => barCell (barPeer k c) | .rem h i => Run.cell (h.peer c) (.sR h.ln) i
def Pend.amt : Pend → ℕ
  | .bar _ => 1 | .rem _ _ => N16
def Pend.lev : Pend → ℕ
  | .bar _ => 1 | .rem h i => rlev h.ln i.val
theorem Pend.lv_eq (c : Dev nD) (p : Pend) : lv (p.cell c) () = p.lev := by
  cases p with
  | bar k => rfl
  | rem h i => exact lv_cell _ _ _ rfl
theorem Pend.L_eq (c : Dev nD) (p : Pend) : L (p.cell c) = {()} := by
  cases p <;> exact L_tc _ _
def oweSum (c : Dev nD) : List Pend → CellTallies nD τ sig Unit
  | [] => 0
  | p :: P => oweSum c P + tallyAt (p.cell c) () p.amt

theorem oweSum_pos {c : Dev nD} : ∀ {P : List Pend} {g : GSem nD τ sig} {u : Unit}, 0 < oweSum c P g u → ∃ p ∈ P, g = p.cell c
  | [], g, u, h => absurd h (Nat.lt_irrefl 0)
  | p :: P, g, u, h => by
    unfold oweSum at h
    rw [Pi.add_apply, Finsupp.add_apply] at h
    rcases Nat.add_pos_iff_pos_or_pos.mp h with h | h
    · obtain ⟨q, hq, e⟩ := oweSum_pos h; exact ⟨q, List.mem_cons_of_mem _ hq, e⟩
    · rw [tallyAt_apply] at h
      split at h
      · next hg => exact ⟨p, List.mem_cons_self, hg.1⟩
      · exact absurd h (Nat.lt_irrefl 0)

theorem mayWait (c : Dev nD) (sm : SemLoc sig) (P : List Pend) (h : ∀ p ∈ P, lv ((c : Thread nD τ), sm) () < p.lev) :
    (levAts L lv : sProp 𝕄) ⊢ MayWait (c : Thread nD τ) sm () (oweSum c P) :=
  MayOwe.of_cut (L := L) (lev := lv) (lv ((c : Thread nD τ), sm) ()) (fun p hp => by rw [Finset.mem_singleton.mp hp, L_tc]; exact Finset.mem_singleton_self _)
    (fun g u hg => by obtain ⟨p, hp, rfl⟩ := oweSum_pos hg; rw [Pend.L_eq]; exact Finset.mem_singleton_self _)
    (fun p hp => by rw [Finset.mem_singleton.mp hp])
    (fun g u hg => by obtain ⟨p, hp, rfl⟩ := oweSum_pos hg; rw [Pend.lv_eq]; exact h p hp)

/-! ## The invariants -/

/-- The cells of the protocol and the names of their invariants. -/
structure Names where
  cells : Finset (GSem nD τ sig)
  K : GSem nD τ sig → ℕ
  mem_cell : ∀ c k i, k.ok i = true → cell c k i ∈ cells
  mem_bar : ∀ c, barCell c ∈ cells

variable (I : Inp F) (N : Names)

theorem inv_at (S : Finset (GSem nD τ sig)) (K : GSem nD τ sig → ℕ) {g : GSem nD τ sig} (hg : g ∈ S) :
    (bigSep S fun g => (cellInv (ER F) (Rd I) (K g) g : sProp 𝕄)) ⊢ cellInv (ER F) (Rd I) (K g) g := BI.bigSep_elim hg

/-- What every device knows throughout: the levels and the cells' invariants. -/
def Known : sProp 𝕄 := iprop(levAts L lv ∗ bigSep N.cells fun g => cellInv (ER F) (Rd I) (N.K g) g)
instance known_persistent : BI.Persistent (Known I N) := by unfold Known; infer_instance
theorem known_lev : Known I N ⊢ (levAts L lv : sProp 𝕄) := by
  unfold Known; iintro ⟨H, -⟩; iexact H
theorem known_cell (c : Dev nD) (k : CK) (i : Fin 16) (h : k.ok i = true) : Known I N ⊢ cellInv (ER F) (Rd I) (N.K (cell c k i)) (cell c k i) := by
  unfold Known; iintro ⟨-, H⟩; iapply (inv_at I N.cells N.K (N.mem_cell c k i h)); iexact H
theorem known_bar (c : Dev nD) : Known I N ⊢ cellInv (ER F) (Rd I) (N.K (barCell c)) (barCell c) := by
  unfold Known; iintro ⟨-, H⟩; iapply (inv_at I N.cells N.K (N.mem_bar c)); iexact H

/-! ## Peers -/

theorem px_px : ∀ c, px (px c) = c := by decide +kernel
theorem py_py : ∀ c, py (py c) = c := by decide +kernel
theorem pz_pz : ∀ c, pz (pz c) = c := by decide +kernel
theorem py_pz : ∀ c, py (pz c) = pz (py c) := by decide +kernel
theorem barPeer_barPeer (k : Fin 3) (c : Dev nD) : barPeer k (barPeer k c) = c := by
  revert k c; decide +kernel
theorem Ch.sS_eq : ∀ (h : Ch) (i : Fin 16), h.sS i = (CK.sS h.ln).sem i := by decide +kernel
theorem Ch.sR_eq : ∀ (h : Ch) (i : Fin 16), h.sR i = (CK.sR h.ln).sem i := by decide +kernel
theorem outSem_eq : ∀ (b : Blk) (i : Fin 16), outSem b i = (CK.out b).sem i := by decide +kernel
theorem rawSem_eq : ∀ (i : Fin 16), semAt cc0_scratch20 i = CK.raw.sem i := by decide +kernel
theorem mineSem_eq : cc0_scratch21.sem = CK.mine.sem 0 := by decide +kernel

def Ch.q : Ch → PosShare TreeShare
  | .y => fullShare.left | .z => fullShare.right | _ => fullShare
theorem tok_eq (h : Ch) (c : Dev nD) (i : Fin 16) : R0 I c (h.tok i) = ow c (chunk h.src.ref i) h.q (val I h.src c i) := by
  cases h <;> rfl
theorem tok_R (h : Ch) (c : Dev nD) (i : Fin 16) : R I c (h.tok i) = R0 I c (h.tok i) := by
  cases h <;> rfl
theorem pay_R (k : CK) (c : Dev nD) (i : Fin 16) : bigSepL (payToks k i) (R0 I c) = bigSepL (payToks k i) (R I c) := by
  cases k with
  | sS l => exact (tok_R I _ c i).symm
  | _ => rfl
theorem val_peer (h : Ch) (c : Dev nD) (i : Fin 16) (hh : h.ln.ch i = h) : val I h.dst (h.peer c) i = val I h.src c i := by
  cases h with
  | x => show sV I (px (px c)) i = _; rw [px_px]; rfl
  | y => show rV I (py (py c)) i = _; rw [py_py]; rfl
  | z => show rV I (pz (pz c)) i = _; rw [pz_pz]; rfl
  | fz =>
    have hi : i.val % 2 = 0 := by by_contra hc; simp [Ch.ln, Ln.ch, fwd, hc] at hh
    show (if i.val % 2 = 0 then rV I (py (pz (pz c))) i else _) = _; rw [if_pos hi, pz_pz]; rfl
  | fy =>
    have hi : ¬ i.val % 2 = 0 := fun hc => by simp [Ch.ln, Ln.ch, fwd, hc] at hh
    show (if i.val % 2 = 0 then _ else rV I (pz (py (py c))) i) = _; rw [if_neg hi, py_py]; rfl

/-! ## Steps -/

abbrev 𝒱₀ : Variants := Variants.none
abbrev WP (c : Dev nD) (p : Pr F) (Q : PUnit → sProp 𝕄) : sProp 𝕄 := wp frame (wpE (defs₀ (F := F)) 𝒱₀ (c : Thread nD τ) none) Set.univ p Q

/-- The state between two steps: what is owed, and the tokens listed. -/
def At (c : Dev nD) (P : List Pend) (l : List Tok) : sProp 𝕄 :=
  iprop((∃ W, owes (c : Thread nD τ) (oweSum c P) W) ∗ bigSepL l (R I c))

/-- A step takes the first tokens and payments to the second. -/
def Step (c : Dev nD) (o : Op) (P P' : List Pend) (l l' : List Tok) : Prop :=
  ∀ (k : Pr F) (Q : PUnit → sProp 𝕄), iprop(Known I N ∗ At I c P l ∗ (At I c P' l' -∗ WP c k Q)) ⊢ WP c (o.run I.g c k) Q

theorem owns_pt (c : Dev nD) {sp : Space} {s : Shape} {e : EltTy} (M : Memref sig .tc sp s e) (q : PosShare TreeShare) (f : Buf (Elt F) (M.view.loc (c : Thread nD τ)))
    (X : s.Idx → Elt F e) (h : M.view.read (Elt F) f = X) : (M.view.loc (c : Thread nD τ) ↦[M.view.set]{q} f) ⊢ (ow c M q X : sProp 𝕄) := by
  unfold ow ownsTc owns; iintro H; iexists f; isplitr; · ipureintro; exact h
  iexact H

theorem send_at (c : Dev nD) (h : Ch) (i : Fin 16) (hh : h.ln.ch i = h) (P : List Pend) (s r : DmaSem sig) (hs : s = (CK.sS h.ln).sem i) (hr : r = (CK.sR h.ln).sem i)
    (w₁ : (chunk h.src.ref i).view.WordExact) (w₂ : (chunk h.dst.ref i).view.WordExact)
    (w₃ : DmaTarget.Typed .vmem (.dma r) (.remote (Dev.tc (h.peer c)) (chunk h.dst.ref i) (.dma s))) (k : Pr F) (Q : PUnit → sProp 𝕄) :
    iprop(Known I N ∗ At I c (.rem h i :: P) [h.tok i, (.dst h, i), (.duty (.sS h.ln), i), (.peer h, i)] ∗ (At I c P [(.cred (.sS h.ln), i)] -∗ WP c k Q))
      ⊢ WP c (.op (.enqueueDma (chunk h.src.ref i) (.remote (Dev.tc (h.peer c)) (chunk h.dst.ref i) (.dma s)) (.dma r) w₁ w₂ w₃) fun _ => k) Q := by
  subst hs hr
  simp only [At, BI.bigSepL_cons', bigSepL_nil', tok_R, tok_eq]
  iintro ⟨#HK, ⟨⟨%W, HO⟩, Ht, Hd, Hdu, Hp, -⟩, Hk⟩
  ihave Hd := (show R I c (.dst h, i) ⊢ iprop(owAny (h.peer c) (chunk h.dst.ref i) ∗ reached (ER F) (cell (h.peer c) (.sR h.ln) i) 0) from .rfl) $$ Hd
  ihave Hdu := (show R I c (.duty (.sS h.ln), i) ⊢ iprop(dutyTok (ER F) (cell c (.sS h.ln) i) 0 0 ∗ reached (ER F) (cell c (.sS h.ln) i) 0) from .rfl) $$ Hdu
  ihave Hp := (show R I c (.peer h, i) ⊢ dutyTok (ER F) (cell (h.peer c) (.sR h.ln) i) 0 0 from .rfl) $$ Hp
  unfold ow owAny ownsTc owns
  icases Ht with ⟨%fs, %hfs, Ht⟩
  icases Hd with ⟨⟨%X, %fd, -, Hd⟩, HrN⟩
  icases Hdu with ⟨HtS, HrS⟩
  iapply (Rounds.wp_send_pointsTo 𝒱₀ (ER F) (Rd I) (c : Thread nD τ) none (c' := (h.peer c : Thread nD τ)) (src := chunk h.src.ref i) (dst := chunk h.dst.ref i)
      (sS := .dma ((CK.sS h.ln).sem i)) (sem := .dma ((CK.sR h.ln).sem i)) (q := h.q) (fs := fs) (κ₁ := N.K (cell c (.sS h.ln) i)) (κ₂ := N.K (cell (h.peer c) (.sR h.ln) i))
      (r₁ := 0) (r₂ := 0) (d₁ := 0) (d₂ := 0) (fd := fd)
      (by rw [duties_cell I c _ i rfl]; exact Finset.mem_singleton_self _) (by rw [duties_cell I _ _ i rfl]; exact Finset.mem_singleton_self _)
      () () N16 (by cases h <;> rfl) (amount_cell I c _ i rfl 0) (amount_cell I _ _ i rfl 0) (oweSum c P) rfl (W := W)
      (by
        rw [payload_cell I c _ i rfl]
        show _ ⊢ R0 I c ((h.ln.ch i).tok i)
        rw [hh, tok_eq]
        exact owns_pt c _ _ _ _ hfs)
      (by
        rw [payload_cell I _ _ i rfl]
        show _ ⊢ R0 I (h.peer c) (.full (h.ln.ch i).dst, i)
        rw [hh]
        show _ ⊢ ow (h.peer c) (chunk h.dst.ref i) fullShare (val I h.dst (h.peer c) i)
        rw [val_peer I h c i hh]
        exact owns_pt _ _ _ _ _ ((View.read_write_univ ..).trans hfs))) $$ [Ht Hd HO HtS HrS Hp HrN]
  · isplitr; · iapply (known_cell I N c (.sS h.ln) i rfl); iexact HK
    isplitr; · iapply (known_cell I N (h.peer c) (.sR h.ln) i rfl); iexact HK
    isplitl [Ht]; · iexact Ht
    isplitl [Hd]; · iexact Hd
    isplitl [HO]; · iexact HO
    isplitl [HtS]; · iexact HtS
    isplitl [HrS]; · iexact HrS
    isplitl [Hp]; · iexact Hp
    iexact HrN
  iintro ⟨HcS, HO⟩
  iapply Hk
  isplitl [HO]; · iexists W; iexact HO
  isplitl [HcS]; · iapply (show Idealize.ShloMosaic.cred (tallyAt (cell c (.sS h.ln) i) () N16) ⊢ R I c (.cred (.sS h.ln), i) from .rfl); iexact HcS
  iempintro

/-- A transfer to another device. -/
theorem send_step (c : Dev nD) (h : Ch) (i : Fin 16) (hh : h.ln.ch i = h) (P : List Pend) :
    Step I N c (.send h i) (.rem h i :: P) P [h.tok i, (.dst h, i), (.duty (.sS h.ln), i), (.peer h, i)] [(.cred (.sS h.ln), i)] :=
  fun k Q => send_at I N c h i hh P _ _ (Ch.sS_eq h i) (Ch.sR_eq h i) _ _ _ k Q

/-- A wait for a cell's only round: its tokens come, and its counter is back at zero. -/
theorem wait_step (c : Dev nD) (k : CK) (i : Fin 16) (hk : k.ok i = true) (s : DmaSem sig) (hs : s = k.sem i)
    (w : TpuEff nD τ sig (Elt F) Λ₀ .tc PUnit) (n : ℕ) (hn : n = k.amt)
    (hw : ∀ G : PUnit → sProp 𝕄, wpE (defs₀ (F := F)) 𝒱₀ (c : Thread nD τ) none Set.univ w G = waitSpec (c : Thread nD τ) Set.univ (.dma s) n G)
    (P : List Pend) (hP : ∀ p ∈ P, k.lev i < p.lev) (p : Pr F) (Q : PUnit → sProp 𝕄) :
    iprop(Known I N ∗ At I c P [(.cred k, i), (.pos k, i)] ∗ (At I c P (payToks k i ++ [(.zero k, i)]) -∗ WP c p Q)) ⊢ WP c (.op w fun _ => p) Q := by
  subst hs hn
  simp only [At, BI.bigSepL_append, BI.bigSepL_cons', bigSepL_nil', ← pay_R]
  iintro ⟨#HK, ⟨⟨%W, HO⟩, Hc, Hp, -⟩, Hk⟩
  ihave Hc := (show R I c (.cred k, i) ⊢ Idealize.ShloMosaic.cred (tallyAt (cell c k i) () k.amt) from .rfl) $$ Hc
  ihave Hp := (show R I c (.pos k, i) ⊢ atPos (ER F) (cell c k i) 0 ∅ 0 from .rfl) $$ Hp
  iapply (Rounds.wp_wait_rest_token 𝒱₀ (ER F) (Rd I) (c : Thread nD τ) none (κ := N.K (cell c k i)) hw (Set.mem_univ _) () (O := oweSum c P) (W := W) (R := 0) (m := 0) (T := ∅)
      ((Nat.zero_add _).trans (expect_cell I c k i hk).symm)) $$ [Hc HO Hp]
  · isplitr; · iapply (known_cell I N c k i hk); iexact HK
    isplitl [Hc]; · iexact Hc
    isplitl [HO]; · iexact HO
    isplitr; · iapply (mayWait c (.dma (k.sem i)) P (by rw [show lv ((c : Thread nD τ), SemLoc.dma (k.sem i)) () = k.lev i from lv_cell c k i hk]; exact hP)); iapply (known_lev I N); iexact HK
    iexact Hp
  iintro ⟨HO, Hp, -, Hpay⟩
  ihave Hpay := (Entails.of_eq (rest_cell I c k i hk)) $$ Hpay
  imod (Rounds.cell_close (ER F) (Rd I) (g := cell c k i) (κ := N.K (cell c k i)) (Set.mem_univ _) id (duties_later I _)) $$ [Hp] with Hz
  · isplitr; · iapply (known_cell I N c k i hk); iexact HK
    iexact Hp
  iapply Hk
  isplitl [HO]; · iexists _; iexact HO
  isplitl [Hpay]; · iexact Hpay
  isplitl [Hz]; · iapply (show semVal (cell c k i) 0 ⊢ R I c (.zero k, i) from .rfl); iexact Hz
  iempintro

end Cert.KernelIdeal.Run

end
-- ==== Proof.K.Steps2.lean ====
/- The steps that copy within a device, load and store, and meet at the barrier. -/
module

public import proofs.«01_k».proof.Proof.K.Steps

@[expose] public section

noncomputable section

namespace Cert.KernelIdeal.Run

open Idealize.ShloMosaic Idealize.ShloMosaic.TcCoe
open Idealize.SL Idealize.SL.RA Idealize.SL.Sem Idealize.SL.ProofMode
open Idealize.SL.BI (sProp bigSep bigSepL)
open scoped Idealize.SL.BI
open Idealize.SL.BI.BIBase Idealize.SL.BI.Laws
open Idealize.ShloMosaic.Rounds
open Cert.KernelIdeal.Gen

variable {F : FTy → Type} [FloatOps F]

local notation "𝕄" => MT nD τ sig Unit (Elt F) ℕ UU ℕ

variable (I : Inp F) (N : Names)

section Tokens
variable (c : Dev nD) (i : Fin 16)
theorem R_any (b : Buf16) : R I c (.any b, i) = owAny c (chunk b.ref i) := rfl
theorem R_full (b : Buf16) : R I c (.full b, i) = ow c (chunk b.ref i) fullShare (val I b c i) := rfl
theorem R_half (z : Bool) : R I c (.half z, i) = ow c (chunk Myres i) (if z then fullShare.right else fullShare.left) (val I .r c i) := rfl
theorem R_stAny (b : Blk) : R I c (.stAny b, i) = owAny c (chunk (stg b) i) := rfl
theorem R_stHas (b : Blk) : R I c (.stHas b, i) = ow c (chunk (stg b) i) fullShare (outV I b c i) := rfl
theorem R_outAny (b : Blk) : R I c (.outAny b, i) = owAny c (outC b c i) := rfl
theorem R_outHas (b : Blk) : R I c (.outHas b, i) = ow c (outC b c i) fullShare (outV I b c i) := rfl
theorem R_rawAny : R I c (.rawAny, i) = owAny c (chunk Praw i) := rfl
theorem R_rawHas : R I c (.rawHas, i) = ow c (chunk Praw i) fullShare (rawV I c i) := rfl
theorem R_rawSrc : R I c (.rawSrc, i) = rawPt I c i := rfl
theorem R_mineAny : R I c (.mineAny, i) = owAny c Mine := rfl
theorem R_mineHas : R I c (.mineHas, i) = ow c Mine fullShare (mineV I c) := rfl
theorem R_mineSrc : R I c (.mineSrc, i) = minePt I c := rfl
theorem R_gam : R I c (.gam, i) = ow c I.g fullShare (I.G c) := rfl
theorem R_duty (k : CK) : R I c (.duty k, i) = iprop(dutyTok (ER F) (cell c k i) 0 0 ∗ reached (ER F) (cell c k i) 0) := rfl
theorem R_cred (k : CK) : R I c (.cred k, i) = Idealize.ShloMosaic.cred (tallyAt (cell c k i) () k.amt) := rfl
theorem R_barDuty : R I c (.barDuty, i) = iprop(dutyTok (ER F) (barCell (barPeer (barPeerI i) c)) 0 (barPeerI i) ∗ reached (ER F) (barCell (barPeer (barPeerI i) c)) 0) := rfl
theorem R_barCred : R I c (.barCred, i) = Idealize.ShloMosaic.cred (tallyAt (barCell c) () 3) := rfl
theorem R_barPos : R I c (.barPos, i) = atPos (ER F) (barCell c) 0 ∅ 0 := rfl
theorem R_barZero : R I c (.barZero, i) = semVal (barCell c) 0 := rfl
theorem R_give : R I c (.give, i) = bigSepL (landing (barPeerI i)) (R0 I (barPeer (barPeerI i) c)) := rfl
end Tokens

/-! ## Copies within the device -/

theorem copy_at (c : Dev nD) (k : CK) (i : Fin 16) (hk : k.ok i = true) {sp sp' : Space} {sh : Shape} {e : EltTy} (src : Memref sig .tc sp sh e) (dst : Memref sig .tc sp' sh e)
    (q : PosShare TreeShare) (fs : Buf (Elt F) (src.view.loc (c : Thread nD τ))) (s : DmaSem sig) (hs : s = k.sem i)
    (w₁ : src.view.WordExact) (w₂ : dst.view.WordExact) (w₃ : DmaTarget.Typed (nD := nD) sp (.dma s) (.here dst : DmaTarget nD τ sig .tc sp' sh e)) (hN : dst.view.dmaCredit = k.amt)
    (hpay : iprop(ow c dst fullShare (src.view.read (Elt F) fs) ∗ (src.view.loc (c : Thread nD τ) ↦[src.view.set]{q} fs)) ⊢ bigSepL (payToks k i) (R0 I c))
    (p : Pr F) (Q : PUnit → sProp 𝕄) :
    iprop(Known I N ∗ (src.view.loc (c : Thread nD τ) ↦[src.view.set]{q} fs) ∗ owAny c dst ∗ R I c (.duty k, i) ∗ (R I c (.cred k, i) -∗ WP c p Q))
      ⊢ WP c (.op (.enqueueDma src (.here dst) (.dma s) w₁ w₂ w₃) fun _ => p) Q := by
  subst hs
  rw [R_duty, R_cred]
  iintro ⟨#HK, Hs, Hd, ⟨Ht, Hr⟩, Hk⟩
  unfold owAny ownsTc owns
  icases Hd with ⟨%X, %fd, -, Hd⟩
  iapply (Rounds.wp_copy_pointsTo 𝒱₀ (ER F) (Rd I) (c : Thread nD τ) none (src := src) (dst := dst) (sem := .dma (k.sem i)) (q := q)
      (fs := fs) (fd := fd) (r := 0) (d := 0) (κ := N.K (cell c k i))
      (by rw [duties_cell I c k i hk]; exact Finset.mem_singleton_self _) () k.amt hN (amount_cell I c k i hk 0)
      (by rw [payload_cell I c k i hk]
          exact (sep_mono_left (owns_pt c dst fullShare _ _ (View.read_write_univ ..))).trans hpay)) $$ [Hs Hd Ht Hr]
  · isplitr; · iapply (known_cell I N c k i hk); iexact HK
    isplitl [Hs]; · iexact Hs
    isplitl [Hd]; · iexact Hd
    isplitl [Ht]; · iexact Ht
    iexact Hr
  iexact Hk

theorem mineGo_step (c : Dev nD) (P : List Pend) : Step I N c .mineGo P P [(.mineSrc, 0), (.mineAny, 0), (.duty .mine, 0)] [(.cred .mine, 0)] := by
  intro k Q
  show _ ⊢ WP c (Run.mineGo c k) Q
  unfold Run.mineGo
  simp only [At, BI.bigSepL_cons', bigSepL_nil', R_mineSrc, R_mineAny]
  unfold minePt srcPt
  iintro ⟨#HK, ⟨HO, Hs, Hd, Ht, -⟩, Hk⟩
  iapply (copy_at I N c .mine 0 rfl (mineSrc c) Mine (shr 0).left (I.A c) _ mineSem_eq _ _ _ rfl .rfl k Q)
  isplitr; · iexact HK
  isplitl [Hs]; · iexact Hs
  isplitl [Hd]; · iexact Hd
  isplitl [Ht]; · iexact Ht
  iintro Hc
  iapply Hk
  isplitl [HO]; · iexact HO
  isplitl [Hc]; · iexact Hc
  iempintro

theorem rawGo_step (c : Dev nD) (i : Fin 16) (P : List Pend) : Step I N c (.rawGo i) P P [(.rawSrc, i), (.rawAny, i), (.duty .raw, i)] [(.cred .raw, i)] := by
  intro k Q
  show _ ⊢ WP c (Run.rawGo c i k) Q
  unfold Run.rawGo
  simp only [At, BI.bigSepL_cons', bigSepL_nil', R_rawSrc, R_rawAny]
  unfold rawPt srcPt
  iintro ⟨#HK, ⟨HO, Hs, Hd, Ht, -⟩, Hk⟩
  iapply (copy_at I N c .raw i rfl (prawSrc c i) (chunk Praw i) (shr (i.val + 1)).left (I.A c) _ (rawSem_eq i) _ _ _ rfl .rfl k Q)
  isplitr; · iexact HK
  isplitl [Hs]; · iexact Hs
  isplitl [Hd]; · iexact Hd
  isplitl [Ht]; · iexact Ht
  iintro Hc
  iapply Hk
  isplitl [HO]; · iexact HO
  isplitl [Hc]; · iexact Hc
  iempintro

theorem put_step (c : Dev nD) (b : Blk) (i : Fin 16) (P : List Pend) : Step I N c (.put b i) P P [(.stHas b, i), (.outAny b, i), (.duty (.out b), i)] [(.cred (.out b), i)] := by
  intro k Q
  show _ ⊢ WP c (Run.put b c i k) Q
  unfold Run.put
  simp only [At, BI.bigSepL_cons', bigSepL_nil', R_stHas, R_outAny]
  iintro ⟨#HK, ⟨HO, Hs, Hd, Ht, -⟩, Hk⟩
  ihave Hs := (show ow c (chunk (stg b) i) fullShare (outV I b c i) ⊢ iprop(∃ f, ⌜(chunk (stg b) i).view.read (Elt F) f = outV I b c i⌝ ∗ ((chunk (stg b) i).view.loc (c : Thread nD τ) ↦[(chunk (stg b) i).view.set]{fullShare} f)) from .rfl) $$ Hs
  icases Hs with ⟨%fs, %hfs, Hs⟩
  iapply (copy_at I N c (.out b) i rfl (chunk (stg b) i) (outC b c i) fullShare fs _ (outSem_eq b i) _ _ _ (by cases b <;> rfl)
    (by
      rw [hfs]
      exact sep_mono_right (owns_pt c _ _ _ _ hfs)) k Q)
  isplitr; · iexact HK
  isplitl [Hs]; · iexact Hs
  isplitl [Hd]; · iexact Hd
  isplitl [Ht]; · iexact Ht
  iintro Hc
  iapply Hk
  isplitl [HO]; · iexact HO
  isplitl [Hc]; · iexact Hc
  iempintro

/-! ## Waits -/

theorem dwait (c : Dev nD) (k : CK) (i : Fin 16) (hk : k.ok i = true) {sp sp' : Space} {sh sh' : Shape} {e e' : EltTy} (src : Memref sig .tc sp sh e) (dst : Memref sig .tc sp' sh' e')
    (s : DmaSem sig) (hs : s = k.sem i) (w₁ : src.view.WordExact) (w₂ : dst.view.WordExact) (hn : dst.view.dmaCredit = k.amt)
    (P : List Pend) (hP : ∀ p ∈ P, k.lev i < p.lev) (p : Pr F) (Q : PUnit → sProp 𝕄) :
    iprop(Known I N ∗ At I c P [(.cred k, i), (.pos k, i)] ∗ (At I c P (payToks k i ++ [(.zero k, i)]) -∗ WP c p Q)) ⊢ WP c (.op (.waitDma2 s src dst w₁ w₂) fun _ => p) Q :=
  wait_step I N c k i hk s hs _ _ hn (wpE_waitDma2_eq (src := src) (dst := dst) (hsrc := w₁) (hdst := w₂) 𝒱₀ (c : Thread nD τ) none Set.univ) P hP p Q

theorem mineDone_step (c : Dev nD) (P : List Pend) (hP : ∀ p ∈ P, 0 < p.lev) : Step I N c .mineDone P P [(.cred .mine, 0), (.pos .mine, 0)] (payToks .mine 0 ++ [(.zero .mine, 0)]) := by
  intro k Q
  show _ ⊢ WP c (Run.mineDone c k) Q
  exact dwait I N c .mine 0 rfl (mineSrc c) Mine _ mineSem_eq _ _ rfl P hP k Q
theorem rawDone_step (c : Dev nD) (i : Fin 16) (P : List Pend) (hP : ∀ p ∈ P, 0 < p.lev) : Step I N c (.rawDone i) P P [(.cred .raw, i), (.pos .raw, i)] (payToks .raw i ++ [(.zero .raw, i)]) := by
  intro k Q
  show _ ⊢ WP c (Run.rawDone c i k) Q
  exact dwait I N c .raw i rfl (prawSrc c i) (chunk Praw i) _ (rawSem_eq i) _ _ rfl P hP k Q
theorem putDone_step (c : Dev nD) (b : Blk) (i : Fin 16) (P : List Pend) (hP : ∀ p ∈ P, 0 < p.lev) : Step I N c (.putDone b i) P P [(.cred (.out b), i), (.pos (.out b), i)] (payToks (.out b) i ++ [(.zero (.out b), i)]) := by
  intro k Q
  show _ ⊢ WP c (Run.putDone b c i k) Q
  exact dwait I N c (.out b) i rfl (chunk (stg b) i) (outC b c i) _ (outSem_eq b i) _ _ (by cases b <;> rfl) P hP k Q
theorem arrive_step (c : Dev nD) (h : Ch) (i : Fin 16) (P : List Pend) (hP : ∀ p ∈ P, (CK.sR h.ln).lev i < p.lev) :
    Step I N c (.arrive h i) P P [(.cred (.sR h.ln), i), (.pos (.sR h.ln), i)] (payToks (.sR h.ln) i ++ [(.zero (.sR h.ln), i)]) := by
  intro k Q
  show _ ⊢ WP c (Run.arrive h i k) Q
  exact dwait I N c (.sR h.ln) i rfl (chunk h.src.ref i) (chunk h.dst.ref i) _ (Ch.sR_eq h i) _ _ (by cases h <;> rfl) P hP k Q
theorem sent_step (c : Dev nD) (h : Ch) (i : Fin 16) (P : List Pend) (hP : ∀ p ∈ P, 0 < p.lev) :
    Step I N c (.sent h i) P P [(.cred (.sS h.ln), i), (.pos (.sS h.ln), i)] (payToks (.sS h.ln) i ++ [(.zero (.sS h.ln), i)]) := by
  intro k Q
  show _ ⊢ WP c (Run.sent h i k) Q
  exact dwait I N c (.sS h.ln) i rfl (chunk h.dst.ref i) (chunk h.src.ref i) _ (Ch.sS_eq h i) _ _ (by cases h <;> rfl) P hP k Q

/-! ## The barrier -/

def ki (k : Fin 3) : Fin 16 := ⟨k.val, by omega⟩
theorem barPeerI_ki (k : Fin 3) : barPeerI (ki k) = k := by revert k; decide
theorem landing_R (d : Fin 3) (c : Dev nD) : bigSepL (landing d) (R0 I c) = bigSepL (landing d) (R I c) := by
  fin_cases d <;> rfl

theorem bar_step (c : Dev nD) (k : Fin 3) (P : List Pend) : Step I N c (.bar k) (.bar k :: P) P [(.give, ki k), (.barDuty, ki k)] [] := by
  intro p Q
  show _ ⊢ WP c (.op (.semSignal (barPeer k c : Thread nD τ) barS ((1 : ℕ) : ℤ)) fun _ => p) Q
  simp only [At, BI.bigSepL_cons', bigSepL_nil', R_give, R_barDuty, barPeerI_ki]
  iintro ⟨#HK, ⟨⟨%W, HO⟩, Hg, ⟨Ht, Hr⟩, -⟩, Hk⟩
  iapply (Rounds.wp_signal 𝒱₀ (ER F) (Rd I) (c : Thread nD τ) none (dst := (barPeer k c : Thread nD τ)) (sem := barS) (r := 0) (d := k) (κ := N.K (barCell (barPeer k c)))
      (by rw [duties_bar]; exact Finset.mem_univ _) (amount_bar I (barPeer k c) k) () (oweSum c P) rfl)
    $$ [HO Hg Ht Hr]
  · isplitr; · iapply (known_bar I N (barPeer k c)); iexact HK
    isplitl [HO]; · iexact HO
    isplitl [Ht]; · iexact Ht
    isplitl [Hg]; · rw [payload_bar]; iexact Hg
    iexact Hr
  iintro HO
  iapply Hk
  isplitl [HO]; · iexists W; iexact HO
  iempintro

theorem bigSep_fin3 (Φ : Fin 3 → sProp 𝕄) : bigSep Finset.univ Φ = iprop(Φ 0 ∗ Φ 1 ∗ Φ 2) := by
  rw [show (Finset.univ : Finset (Fin 3)) = {0, 1, 2} from by decide, BI.bigSep_insert (by decide), BI.bigSep_insert (by decide), BI.bigSep_singleton]
  rfl

theorem rest_bar (c : Dev nD) : bigSep ((Rd I).duties (barCell c) 0 \ ∅) (fun d => (Rd I).payload (barCell c) 0 d)
    = iprop(bigSepL (landing 0) (R0 I c) ∗ bigSepL (landing 1) (R0 I c) ∗ bigSepL (landing 2) (R0 I c)) := by
  rw [Finset.sdiff_empty, duties_bar, bigSep_fin3, payload_bar, payload_bar, payload_bar]

theorem meet_step (c : Dev nD) (P : List Pend) (hP : ∀ p ∈ P, 1 < p.lev) :
    Step I N c .meet P P [(.barCred, 0), (.barPos, 0)] (landing 0 ++ landing 1 ++ landing 2 ++ [(.barZero, 0)]) := by
  intro p Q
  show _ ⊢ WP c (.op (.semWait barS ((3 : ℕ) : ℤ)) fun _ => p) Q
  simp only [At, BI.bigSepL_append, BI.bigSepL_cons', bigSepL_nil', ← landing_R, R_barCred, R_barPos, R_barZero]
  iintro ⟨#HK, ⟨⟨%W, HO⟩, Hc, Hp, -⟩, Hk⟩
  iapply (Rounds.wp_wait_rest_token 𝒱₀ (ER F) (Rd I) (c : Thread nD τ) none (κ := N.K (barCell c)) (wpE_semWait_eq 𝒱₀ (c : Thread nD τ) none Set.univ) (Set.mem_univ _) () (O := oweSum c P) (W := W) (R := 0) (m := 0) (T := ∅)
      ((Nat.zero_add _).trans (expect_bar I c).symm)) $$ [Hc HO Hp]
  · isplitr; · iapply (known_bar I N c); iexact HK
    isplitl [Hc]; · iexact Hc
    isplitl [HO]; · iexact HO
    isplitr; · iapply (mayWait c (.reg barS) P hP); iapply (known_lev I N); iexact HK
    iexact Hp
  iintro ⟨HO, Hp, -, Hpay⟩
  ihave Hpay := (Entails.of_eq (rest_bar I c)) $$ Hpay
  icases Hpay with ⟨H0, H1, H2⟩
  imod (Rounds.cell_close (ER F) (Rd I) (g := barCell c) (κ := N.K (barCell c)) (Set.mem_univ _) id (duties_later I _)) $$ [Hp] with Hz
  · isplitr; · iapply (known_bar I N c); iexact HK
    iexact Hp
  iapply Hk
  isplitl [HO]; · iexists _; iexact HO
  isplitl [H0 H1 H2]
  · isplitl [H0 H1]
    · isplitl [H0]; · iexact H0
      iexact H1
    iexact H2
  isplitl [Hz]; · iexact Hz
  iempintro

/-! ## Loads and stores -/

theorem load_at (c : Dev nD) {e : EltTy} (M : Memref sig .tc .vmem S512x2048 e) (i : Fin 16) (q : PosShare TreeShare) (X : S32x2048.Idx → Elt F e)
    (hl : M.view.LoadsAt (rC i).toLoadRect) (k : (S32x2048.Idx → Elt F e) → Pr F) (Q : PUnit → sProp 𝕄) :
    iprop(ow c (chunk M i) q X ∗ (ow c (chunk M i) q X -∗ WP c (k X) Q)) ⊢ WP c (.op (.load (e := e) M (rC i).toLoadRect hl) k) Q := by
  unfold ow ownsTc owns
  iintro ⟨⟨%f, %hf, H⟩, Hk⟩
  subst hf
  iapply (wp_load_rect 𝒱₀ (c : Thread nD τ) none Set.univ (m := M) (r := rC i) (S := (M.access (rC i)).set) (q := q) (f := f) subset_rfl) $$ H
  iintro H
  iapply Hk
  iexists f
  isplitr; · ipureintro; rfl
  iexact H

theorem load_sub (c : Dev nD) {s : Shape} {e : EltTy} (M : Memref sig .tc .vmem s e) (r : Rect s) (q : PosShare TreeShare) (X : s.Idx → Elt F e)
    (hl : M.view.LoadsAt r.toLoadRect) (k : (r.shape.Idx → Elt F e) → Pr F) (Q : PUnit → sProp 𝕄) :
    iprop(ow c M q X ∗ (ow c M q X -∗ WP c (k fun j => X (r.emb j)) Q)) ⊢ WP c (.op (.load (e := e) M r.toLoadRect hl) k) Q := by
  unfold ow ownsTc owns
  iintro ⟨⟨%f, %hf, H⟩, Hk⟩
  subst hf
  iapply (wp_load_rect 𝒱₀ (c : Thread nD τ) none Set.univ (m := M) (r := r) (S := M.view.set) (q := q) (f := f) (by
    rw [show (M.access r).set = M.view.setOn r.set from View.set_slice ..]; exact View.setOn_subset_set ..)) $$ H
  iintro H
  iapply Hk
  iexists f
  isplitr; · ipureintro; rfl
  iexact H

theorem store_at (c : Dev nD) {e : EltTy} (M : Memref sig .tc .vmem S512x2048 e) (i : Fin 16) (v : S32x2048.Idx → Elt F e)
    (hx : (M.access (rC i)).Stores Finset.univ) (hm : (Finset.univ : Finset (rC i).shape.Idx) = Finset.univ ∨ ∀ a, (rC i).stride a = 1) (k : Pr F) (Q : PUnit → sProp 𝕄) :
    iprop(owAny c (chunk M i) ∗ (ow c (chunk M i) fullShare v -∗ WP c k Q)) ⊢ WP c (.op (.store M (rC i) v Finset.univ hx hm) fun _ => k) Q := by
  unfold ow owAny ownsTc owns
  iintro ⟨⟨%X, %f, -, H⟩, Hk⟩
  iapply (wp_store 𝒱₀ (c : Thread nD τ) none Set.univ (m := M) (r := rC i) (w := v) (Mk := Finset.univ) (S := (M.access (rC i)).set) (f := f) (by rw [View.setOn_univ])) $$ H
  iintro H
  iapply Hk
  iexists ((M.access (rC i)).write (Elt F) f v Finset.univ)
  isplitr
  · ipureintro; exact View.read_write_univ (v := M.access (rC i)) ..
  iexact H

theorem ow_any (c : Dev nD) {sp : Space} {s : Shape} {e : EltTy} (M : Memref sig .tc sp s e) (X : s.Idx → Elt F e) : ow c M fullShare X ⊢ (owAny c M : sProp 𝕄) := by
  unfold owAny; iintro H; iexists X; iexact H

end Cert.KernelIdeal.Run

end
-- ==== Proof.K.Steps3.lean ====
/- The steps that compute: rounding a chunk, the normalised sum of a chunk, and widening a chunk received. -/
module

public import proofs.«01_k».proof.Proof.K.Steps2

@[expose] public section

noncomputable section

namespace Cert.KernelIdeal.Run

open Idealize.ShloMosaic Idealize.ShloMosaic.TcCoe
open Idealize.SL Idealize.SL.RA Idealize.SL.Sem Idealize.SL.ProofMode
open Idealize.SL.BI (sProp bigSep bigSepL)
open scoped Idealize.SL.BI
open Idealize.SL.BI.BIBase Idealize.SL.BI.Laws
open Idealize.ShloMosaic.Rounds
open Cert.KernelIdeal.Gen

variable {F : FTy → Type} [FloatOps F]

local notation "𝕄" => MT nD τ sig Unit (Elt F) ℕ UU ℕ

variable (I : Inp F) (N : Names)

theorem prep_step (c : Dev nD) (i : Fin 16) (P : List Pend) : Step I N c (.prep i) P P [(.rawHas, i), (.any .s, i)] [(.rawHas, i), (.full .s, i)] := by
  intro k Q
  show _ ⊢ WP c (Run.prep i k) Q
  unfold Run.prep load32 load16 store16
  simp only [At, BI.bigSepL_cons', bigSepL_nil', R_rawHas, R_any, R_full]
  iintro ⟨#HK, ⟨HO, Hr, Ha, -⟩, Hk⟩
  iapply (load_at c Praw i fullShare (rawV I c i) _ _ Q)
  isplitl [Hr]; · iexact Hr
  iintro Hr
  icases Ha with ⟨%X, Ha⟩
  iapply (load_at c Buf16.s.ref i fullShare X _ _ Q)
  isplitl [Ha]; · iexact Ha
  iintro Ha
  iapply (store_at c Buf16.s.ref i (down (rawV I c i)) _ _ k Q)
  isplitl [Ha]; · iapply (ow_any c _ X); iexact Ha
  iintro Ha
  iapply Hk
  isplitl [HO]; · iexact HO
  isplitl [Hr]; · iexact Hr
  isplitl [Ha]; · iexact Ha
  iempintro

theorem stage_val (c : Dev nD) (b : Blk) (hb : b ≠ .m) (i : Fin 16) : up (val I b.buf c i) = outV I b c i := by
  cases b <;> first | rfl | exact absurd rfl hb

theorem stage_step (c : Dev nD) (b : Blk) (hb : b ≠ .m) (i : Fin 16) (P : List Pend) :
    Step I N c (.stage b.buf b i) P P [(.full b.buf, i), (.stAny b, i)] [(.full b.buf, i), (.stHas b, i)] := by
  intro k Q
  show _ ⊢ WP c (Run.stage b.buf b i k) Q
  unfold Run.stage load32 load16 store32
  simp only [At, BI.bigSepL_cons', bigSepL_nil', R_stHas, R_stAny, R_full]
  iintro ⟨#HK, ⟨HO, Hr, Ha, -⟩, Hk⟩
  iapply (load_at c b.buf.ref i fullShare (val I b.buf c i) _ _ Q)
  isplitl [Hr]; · iexact Hr
  iintro Hr
  icases Ha with ⟨%X, Ha⟩
  iapply (load_at c (stg b) i fullShare X _ _ Q)
  isplitl [Ha]; · iexact Ha
  iintro Ha
  rw [stage_val I c b hb i]
  iapply (store_at c (stg b) i (outV I b c i) _ _ k Q)
  isplitl [Ha]; · iapply (ow_any c _ X); iexact Ha
  iintro Ha
  iapply Hk
  isplitl [HO]; · iexact HO
  isplitl [Hr]; · iexact Hr
  isplitl [Ha]; · iexact Ha
  iempintro

theorem res_halves (c : Dev nD) (i : Fin 16) : ow c (chunk Buf16.r.ref i) fullShare (down (resV I c i)) ⊢ iprop(R I c (Ch.y.tok i) ∗ R I c (Ch.z.tok i)) :=
  (owns_halves (Val := Elt F) (c : Thread nD τ) (chunk Myres i) fullShare (rV I c i)).1

theorem comp_step (c : Dev nD) (i : Fin 16) (P : List Pend) :
    Step I N c (.comp i) (.rem .y i :: .rem .z i :: P) P
      [(.mineHas, 0), (.full .x, i), (.gam, 0), (.any .r, i), (.dst .y, i), (.duty (.sS .y), i), (.peer .y, i), (.dst .z, i), (.duty (.sS .z), i), (.peer .z, i), (.stAny .m, i)]
      [(.mineHas, 0), (.full .x, i), (.gam, 0), (.cred (.sS .y), i), (.cred (.sS .z), i), (.stHas .m, i)] := by
  intro k Q
  show _ ⊢ WP c (Run.comp I.g c i k) Q
  unfold Run.comp load32 load16 loadG store32 store16
  simp only [At, BI.bigSepL_cons', bigSepL_nil', R_mineHas, R_gam, R_full, R_any, R_stAny, R_stHas]
  iintro ⟨#HK, ⟨HO, Hm, Hx, Hg, Ha, Hdy, Huy, Hpy, Hdz, Huz, Hpz, Hst, -⟩, Hk⟩
  iapply (load_sub c Mine (rC i) fullShare (mineV I c) _ _ Q)
  isplitl [Hm]; · iexact Hm
  iintro Hm
  iapply (load_at c Buf16.x.ref i fullShare (val I .x c i) _ _ Q)
  isplitl [Hx]; · iexact Hx
  iintro Hx
  iapply (load_sub c I.g (Rect.unit (s := S1x2048) ![0, 0] S1x2048.size inb_S1x2048_S1x2048_0_0) fullShare (I.G c) _ _ Q)
  isplitl [Hg]; · iexact Hg
  iintro Hg
  icases Ha with ⟨%X, Ha⟩
  iapply (load_at c Buf16.r.ref i fullShare X _ _ Q)
  isplitl [Ha]; · iexact Ha
  iintro Ha
  iapply (store_at c Buf16.r.ref i (down (resV I c i)) _ _ _ Q)
  isplitl [Ha]; · iapply (ow_any c _ X); iexact Ha
  iintro Ha
  ihave Ha := (res_halves I c i) $$ Ha
  icases Ha with ⟨Hy, Hz⟩
  iapply (send_step I N c .y i rfl (.rem .z i :: P) _ Q)
  isplitr; · iexact HK
  isplitl [HO Hy Hdy Huy Hpy]
  · simp only [At, BI.bigSepL_cons', bigSepL_nil']
    isplitl [HO]; · iexact HO
    isplitl [Hy]; · iexact Hy
    isplitl [Hdy]; · iexact Hdy
    isplitl [Huy]; · iexact Huy
    isplitl [Hpy]; · iexact Hpy
    iempintro
  simp only [At, BI.bigSepL_cons', bigSepL_nil']
  iintro ⟨HO, Hcy, -⟩
  iapply (send_step I N c .z i rfl P _ Q)
  isplitr; · iexact HK
  isplitl [HO Hz Hdz Huz Hpz]
  · simp only [At, BI.bigSepL_cons', bigSepL_nil']
    isplitl [HO]; · iexact HO
    isplitl [Hz]; · iexact Hz
    isplitl [Hdz]; · iexact Hdz
    isplitl [Huz]; · iexact Huz
    isplitl [Hpz]; · iexact Hpz
    iempintro
  simp only [At, BI.bigSepL_cons', bigSepL_nil']
  iintro ⟨HO, Hcz, -⟩
  icases Hst with ⟨%Y, Hst⟩
  iapply (load_at c (stg .m) i fullShare Y _ _ Q)
  isplitl [Hst]; · iexact Hst
  iintro Hst
  iapply (store_at c (stg .m) i (outV I .m c i) _ _ k Q)
  isplitl [Hst]; · iapply (ow_any c _ Y); iexact Hst
  iintro Hst
  iapply Hk
  isplitl [HO]; · iexact HO
  isplitl [Hm]; · iexact Hm
  isplitl [Hx]; · iexact Hx
  isplitl [Hg]; · iexact Hg
  isplitl [Hcy]; · iexact Hcy
  isplitl [Hcz]; · iexact Hcz
  isplitl [Hst]; · iexact Hst
  iempintro

end Cert.KernelIdeal.Run

end
-- ==== Proof.K.Sim.lean ====
/- The whole list of steps, run on the set of tokens a device holds: the set is kept as the bits of a number, the run is
   decided, and it carries the device from the tokens it starts with to those it ends with. -/
module

public import proofs.«01_k».proof.Proof.K.Steps3

@[expose] public section

noncomputable section

namespace Cert.KernelIdeal.Run

open Idealize.ShloMosaic Idealize.ShloMosaic.TcCoe
open Idealize.SL Idealize.SL.RA Idealize.SL.Sem Idealize.SL.ProofMode
open Idealize.SL.BI (sProp bigSep bigSepL)
open scoped Idealize.SL.BI
open Idealize.SL.BI.BIBase Idealize.SL.BI.Laws
open Idealize.ShloMosaic.Rounds
open Cert.KernelIdeal.Gen

variable {F : FTy → Type} [FloatOps F]

local notation "𝕄" => MT nD τ sig Unit (Elt F) ℕ UU ℕ

variable (I : Inp F) (N : Names)

/-! ## What each step takes and leaves -/

def Op.pops : Op → List Pend
  | .bar k => [.bar k]
  | .send h i => [.rem h i]
  | .comp i => [.rem .y i, .rem .z i]
  | _ => []
/-- The level of the cell a step waits on. -/
def Op.lev : Op → Option ℕ
  | .mineDone => some 0 | .rawDone _ => some 0 | .putDone _ _ => some 0 | .sent _ _ => some 0
  | .arrive h i => some ((CK.sR h.ln).lev i)
  | .meet => some 1
  | _ => none
def Op.ins : Op → List Tok
  | .mineGo => [(.mineSrc, 0), (.mineAny, 0), (.duty .mine, 0)]
  | .mineDone => [(.cred .mine, 0), (.pos .mine, 0)]
  | .rawGo i => [(.rawSrc, i), (.rawAny, i), (.duty .raw, i)]
  | .rawDone i => [(.cred .raw, i), (.pos .raw, i)]
  | .bar k => [(.give, ki k), (.barDuty, ki k)]
  | .meet => [(.barCred, 0), (.barPos, 0)]
  | .prep i => [(.rawHas, i), (.any .s, i)]
  | .send h i => [h.tok i, (.dst h, i), (.duty (.sS h.ln), i), (.peer h, i)]
  | .arrive h i => [(.cred (.sR h.ln), i), (.pos (.sR h.ln), i)]
  | .sent h i => [(.cred (.sS h.ln), i), (.pos (.sS h.ln), i)]
  | .comp i => [(.mineHas, 0), (.full .x, i), (.gam, 0), (.any .r, i), (.dst .y, i), (.duty (.sS .y), i), (.peer .y, i), (.dst .z, i), (.duty (.sS .z), i), (.peer .z, i), (.stAny .m, i)]
  | .stage _ b i => [(.full b.buf, i), (.stAny b, i)]
  | .put b i => [(.stHas b, i), (.outAny b, i), (.duty (.out b), i)]
  | .putDone b i => [(.cred (.out b), i), (.pos (.out b), i)]
def Op.outs : Op → List Tok
  | .mineGo => [(.cred .mine, 0)]
  | .mineDone => payToks .mine 0 ++ [(.zero .mine, 0)]
  | .rawGo i => [(.cred .raw, i)]
  | .rawDone i => payToks .raw i ++ [(.zero .raw, i)]
  | .bar k => []
  | .meet => landing 0 ++ landing 1 ++ landing 2 ++ [(.barZero, 0)]
  | .prep i => [(.rawHas, i), (.full .s, i)]
  | .send h i => [(.cred (.sS h.ln), i)]
  | .arrive h i => payToks (.sR h.ln) i ++ [(.zero (.sR h.ln), i)]
  | .sent h i => payToks (.sS h.ln) i ++ [(.zero (.sS h.ln), i)]
  | .comp i => [(.mineHas, 0), (.full .x, i), (.gam, 0), (.cred (.sS .y), i), (.cred (.sS .z), i), (.stHas .m, i)]
  | .stage _ b i => [(.full b.buf, i), (.stHas b, i)]
  | .put b i => [(.cred (.out b), i)]
  | .putDone b i => payToks (.out b) i ++ [(.zero (.out b), i)]
def Op.ok : Op → Bool
  | .send h i => h.ln.ch i = h
  | .stage s b _ => s = b.buf ∧ b ≠ .m
  | _ => true

theorem step_all (c : Dev nD) (o : Op) (ho : o.ok = true) (P : List Pend) (hP : ∀ n ∈ o.lev, ∀ p ∈ P, n < p.lev) :
    Step I N c o (o.pops ++ P) P o.ins o.outs := by
  cases o with
  | mineGo => exact mineGo_step I N c P
  | mineDone => exact mineDone_step I N c P (hP 0 rfl)
  | rawGo i => exact rawGo_step I N c i P
  | rawDone i => exact rawDone_step I N c i P (hP 0 rfl)
  | bar k => exact bar_step I N c k P
  | meet => exact meet_step I N c P (hP 1 rfl)
  | prep i => exact prep_step I N c i P
  | send h i => exact send_step I N c h i (of_decide_eq_true ho) P
  | arrive h i => exact arrive_step I N c h i P (hP _ rfl)
  | sent h i => exact sent_step I N c h i P (hP 0 rfl)
  | comp i => exact comp_step I N c i P
  | stage s b i =>
    obtain ⟨rfl, hb⟩ := of_decide_eq_true ho
    exact stage_step I N c b hb i P
  | put b i => exact put_step I N c b i P
  | putDone b i => exact putDone_step I N c b i P (hP 0 rfl)

/-! ## Sets of tokens as numbers -/

def Buf16.num : Buf16 → ℕ
  | .s => 0 | .x => 1 | .r => 2 | .y => 3 | .z => 4 | .d => 5
def Ch.num : Ch → ℕ
  | .x => 0 | .y => 1 | .z => 2 | .fz => 3 | .fy => 4
def CK.code : CK → ℕ
  | .sS l => l.num | .sR l => 4 + l.num | .out b => 8 + b.num | .raw => 12 | .mine => 13
def Kind.num : Kind → ℕ
  | .any b => b.num | .full b => 6 + b.num | .half z => 12 + z.toNat | .dst h => 14 + h.num | .peer h => 19 + h.num
  | .stAny b => 24 + b.num | .stHas b => 28 + b.num | .outAny b => 32 + b.num | .outHas b => 36 + b.num
  | .rawAny => 40 | .rawHas => 41 | .rawSrc => 42 | .mineAny => 43 | .mineHas => 44 | .mineSrc => 45 | .gam => 46
  | .barDuty => 47 | .barCred => 48 | .barPos => 49 | .barZero => 50 | .give => 51
  | .duty k => 52 + k.code | .cred k => 66 + k.code | .pos k => 80 + k.code | .zero k => 94 + k.code
def kinds : List Kind :=
  bufs.map .any ++ bufs.map .full ++ [.half false, .half true] ++ chs.map .dst ++ chs.map .peer ++ blks.map .stAny ++ blks.map .stHas ++ blks.map .outAny ++ blks.map .outHas
  ++ [.rawAny, .rawHas, .rawSrc, .mineAny, .mineHas, .mineSrc, .gam, .barDuty, .barCred, .barPos, .barZero, .give]
  ++ cks.map .duty ++ cks.map .cred ++ cks.map .pos ++ cks.map .zero
theorem mem_cks : ∀ k : CK, k ∈ cks := by decide
theorem mem_kinds (k : Kind) : k ∈ kinds := by
  simp only [kinds, List.mem_append, List.mem_map]
  have hk := mem_cks
  have hb : ∀ b : Blk, b ∈ blks := by decide
  have hB : ∀ b : Buf16, b ∈ bufs := by decide
  have hc : ∀ h : Ch, h ∈ chs := by decide
  rcases k with b | b | (_ | _) | h | b | b | b | b | _ | _ | _ | _ | _ | _ | _ | k | h | k | k | k | _ | _ | _ | _ | _ <;> simp [hk, hb, hB, hc]
def code (t : Tok) : ℕ := 16 * t.1.num + t.2.val
theorem num_inj_list : (kinds.map Kind.num).Nodup := by decide +kernel
theorem num_inj : Function.Injective Kind.num := fun a b h => List.inj_on_of_nodup_map num_inj_list (mem_kinds a) (mem_kinds b) h
theorem code_inj : Function.Injective code := fun a b h => by
  unfold code at h
  have h1 := a.2.isLt; have h2 := b.2.isLt
  exact Prod.ext (num_inj (by omega)) (Fin.ext (by omega))

instance : Fintype Kind := ⟨kinds.toFinset, fun a => List.mem_toFinset.mpr (mem_kinds a)⟩

/-- The tokens whose bit is set. -/
def bits (s : ℕ) : Finset Tok := Finset.univ.filter fun t => s.testBit (code t) = true
def St (c : Dev nD) (s : ℕ) : sProp 𝕄 := bigSep (bits s) (R I c)

def flip (s : ℕ) (t : Tok) : ℕ := s ^^^ (1 <<< code t)
theorem testBit_flip (s : ℕ) (t u : Tok) : (flip s t).testBit (code u) = (s.testBit (code u) ^^ decide (t = u)) := by
  unfold flip
  rw [Nat.testBit_xor, Nat.shiftLeft_eq, one_mul, Nat.testBit_two_pow]
  congr 1
  by_cases h : t = u
  · subst h; simp
  · rw [decide_eq_false h]; simp; exact fun e => h (code_inj e)
theorem mem_bits {s : ℕ} {t : Tok} : t ∈ bits s ↔ s.testBit (code t) = true := by simp [bits]
theorem bits_take (s : ℕ) (t : Tok) (h : s.testBit (code t) = true) : bits (flip s t) = (bits s).erase t := by
  ext u
  rw [mem_bits, Finset.mem_erase, mem_bits, testBit_flip]
  by_cases e : t = u
  · subst e; simp [h]
  · rw [decide_eq_false e, Bool.xor_false]; exact ⟨fun h => ⟨fun e' => e e'.symm, h⟩, fun h => h.2⟩
theorem bits_add (s : ℕ) (t : Tok) (h : s.testBit (code t) = false) : bits (flip s t) = insert t (bits s) := by
  ext u
  rw [mem_bits, Finset.mem_insert, mem_bits, testBit_flip]
  by_cases e : t = u
  · subst e; simp [h]
  · rw [decide_eq_false e, Bool.xor_false]; exact ⟨fun h => .inr h, fun h => h.resolve_left fun e' => e e'.symm⟩

theorem bigSep_out {J : Type} [DecidableEq J] {s : Finset J} {j : J} (h : j ∈ s) (Φ : J → sProp 𝕄) : bigSep s Φ = iprop(Φ j ∗ bigSep (s.erase j) Φ) := BI.bigSep_erase h
theorem bigSep_in {J : Type} [DecidableEq J] {s : Finset J} {j : J} (h : j ∉ s) (Φ : J → sProp 𝕄) : bigSep (insert j s) Φ = iprop(Φ j ∗ bigSep s Φ) := BI.bigSep_insert h

def take : List Tok → ℕ → Option ℕ
  | [], s => some s
  | t :: l, s => bif s.testBit (code t) then take l (flip s t) else none
def add : List Tok → ℕ → Option ℕ
  | [], s => some s
  | t :: l, s => bif s.testBit (code t) then none else add l (flip s t)

theorem take_sound (c : Dev nD) : ∀ (l : List Tok) (s s' : ℕ), take l s = some s' → St I c s ⊢ iprop(bigSepL l (R I c) ∗ St I c s')
  | [], s, s', h => by
    obtain rfl : s = s' := Option.some.inj h
    rw [bigSepL_nil']; iintro H; isplitr; · iempintro
    iexact H
  | t :: l, s, s', h => by
    cases hb : s.testBit (code t) with
    | false => rw [take, hb] at h; exact absurd h (by simp)
    | true =>
      rw [take, hb] at h
      rw [BI.bigSepL_cons']
      have ih := take_sound c l _ _ h
      unfold St at ih ⊢
      rw [bigSep_out (mem_bits.mpr hb), ← bits_take s t hb]
      iintro ⟨Ht, H⟩
      ihave H := ih $$ H
      icases H with ⟨Hl, H⟩
      isplitl [Ht Hl]
      · isplitl [Ht]; · iexact Ht
        iexact Hl
      iexact H

theorem add_sound (c : Dev nD) : ∀ (l : List Tok) (s s' : ℕ), add l s = some s' → iprop(bigSepL l (R I c) ∗ St I c s) ⊢ St I c s'
  | [], s, s', h => by
    obtain rfl : s = s' := Option.some.inj h
    iintro ⟨-, H⟩; iexact H
  | t :: l, s, s', h => by
    cases hb : s.testBit (code t) with
    | true => rw [add, hb] at h; exact absurd h (by simp)
    | false =>
      rw [add, hb] at h
      rw [BI.bigSepL_cons']
      have ih := add_sound c l _ _ h
      have e : iprop(R I c t ∗ St I c s) = St I c (flip s t) := by
        unfold St
        rw [bits_add s t hb, bigSep_in (fun hm => by rw [mem_bits, hb] at hm; exact absurd hm (by simp))]
      iintro ⟨⟨Ht, Hl⟩, H⟩
      iapply ih
      isplitl [Hl]; · iexact Hl
      iapply (Entails.of_eq e)
      isplitl [Ht]; · iexact Ht
      iexact H

/-! ## The run -/

def pop : List Pend → List Pend → Option (List Pend)
  | [], P => some P
  | p :: l, q :: P => bif decide (p = q) then pop l P else none
  | _ :: _, [] => none
theorem pop_eq : ∀ (l P P' : List Pend), pop l P = some P' → P = l ++ P'
  | [], P, P', h => Option.some.inj h
  | p :: l, q :: P, P', h => by
    rw [pop] at h
    by_cases e : p = q
    · rw [decide_eq_true e] at h; rw [e, pop_eq l P P' h]; rfl
    · rw [decide_eq_false e] at h; exact absurd h (by simp)
  | _ :: _, [], _, h => absurd h (by simp [pop])

def levOk (o : Op) (P : List Pend) : Bool := match o.lev with
  | none => true
  | some n => P.all fun p => n < p.lev

def go : List Op → ℕ → List Pend → Option (ℕ × List Pend)
  | [], s, P => some (s, P)
  | o :: os, s, P =>
    match pop o.pops P with
    | none => none
    | some P' => bif o.ok && levOk o P' then
        (match take o.ins s with
        | none => none
        | some s₁ => match add o.outs s₁ with
          | none => none
          | some s₂ => go os s₂ P')
      else none

def Cur (c : Dev nD) (s : ℕ) (P : List Pend) : sProp 𝕄 := iprop((∃ W, owes (c : Thread nD τ) (oweSum c P) W) ∗ St I c s)

theorem go_sound (c : Dev nD) (Q : PUnit → sProp 𝕄) : ∀ (os : List Op) (s : ℕ) (P : List Pend) (s' : ℕ) (P' : List Pend), go os s P = some (s', P') →
    iprop(Known I N ∗ Cur I c s P ∗ (Cur I c s' P' -∗ Q ⟨⟩)) ⊢ WP c (runOps I.g c os) Q
  | [], s, P, s', P', h => by
    obtain ⟨rfl, rfl⟩ := Prod.mk.inj (Option.some.inj h)
    show _ ⊢ WP c (.ret ⟨⟩) Q
    rw [WP, wp_ret]
    iintro ⟨-, H, Hk⟩; imodintro; iapply Hk; iexact H
  | o :: os, s, P, s', P', h => by
    rw [go] at h
    split at h
    · exact absurd h (by simp)
    · next P₁ hp =>
      cases hb : (o.ok && levOk o P₁) with
      | false => rw [hb] at h; exact absurd h (by simp)
      | true =>
        rw [hb] at h
        simp only [cond_true] at h
        split at h
        · exact absurd h (by simp)
        · next s₁ ht =>
          split at h
          · exact absurd h (by simp)
          · next s₂ ha =>
            have ih := go_sound c Q os s₂ P₁ s' P' h
            rw [Bool.and_eq_true] at hb
            have hst := step_all I N c o hb.1 P₁ (fun n hn p hp' => by
              have h2 := hb.2; unfold levOk at h2; rw [Option.mem_def.mp hn] at h2
              exact of_decide_eq_true (List.all_eq_true.mp h2 p hp'))
            rw [pop_eq _ _ _ hp]
            show _ ⊢ WP c (o.run I.g c (runOps I.g c os)) Q
            unfold Cur
            iintro ⟨#HK, ⟨HO, HS⟩, Hk⟩
            ihave HS := (take_sound I c _ _ _ ht) $$ HS
            icases HS with ⟨Hl, HS⟩
            iapply (hst (runOps I.g c os) Q)
            isplitr; · iexact HK
            isplitl [HO Hl]
            · unfold At; isplitl [HO]; · iexact HO
              iexact Hl
            iintro H
            unfold At
            icases H with ⟨HO, Hl⟩
            iapply ih
            isplitr; · iexact HK
            isplitl [HO HS Hl]
            · unfold Cur; isplitl [HO]; · iexact HO
              iapply (add_sound I c _ _ _ ha)
              isplitl [Hl]; · iexact Hl
              iexact HS
            unfold Cur
            iexact Hk

/-! ## Where the run starts and where it ends -/

def onAll (l : List Kind) : List Tok := l.flatMap fun k => all16.map fun i => (k, i)
def barToks (k : Kind) : List Tok := [(k, 0), (k, 1), (k, 2)]
def fwds (f : Ch → Kind) : List Tok := all16.map fun i => (f (fwd i), i)
def sgls (l : List Kind) : List Tok := l.map fun k => (k, 0)
def cellKs : List CK := lns.map .sS ++ lns.map .sR ++ blks.map .out ++ [.raw]

/-- What a device holds of buffers when it starts. -/
def memStart : List Tok := onAll ([.any .s, .any .r] ++ blks.map .stAny ++ [.rawAny]) ++ onAll (blks.map .outAny) ++ onAll [.rawSrc] ++ sgls [.mineAny, .mineSrc, .gam]
/-- What it holds of the cells when it starts. -/
def cellStart : List Tok :=
  barToks .barDuty ++ sgls [.barCred, .barPos] ++ onAll (cellKs.map .pos) ++ sgls [.pos .mine]
  ++ onAll (lns.map fun l => .duty (.sS l)) ++ onAll (blks.map fun b => .duty (.out b)) ++ onAll [.duty .raw] ++ sgls [.duty .mine]
  ++ onAll (lns.map fun l => .cred (.sR l)) ++ onAll [.peer .x, .peer .y, .peer .z] ++ fwds .peer
def start : List Tok := memStart ++ barToks .give ++ cellStart

def memEnd : List Tok := onAll [.full .s, .full .x, .half false, .half true, .full .y, .full .z, .full .d] ++ onAll (blks.map .stHas ++ [.rawHas])
  ++ onAll (blks.map .outHas) ++ onAll [.rawSrc] ++ sgls [.mineHas, .mineSrc, .gam]
def cellEnd : List Tok := sgls [.barZero] ++ onAll (cellKs.map .zero) ++ sgls [.zero .mine]
def finish : List Tok := memEnd ++ cellEnd

def pends : List Pend := program.flatMap Op.pops

def whole : Option (ℕ × List Pend) := (add start 0).bind fun s => (go program s pends).bind fun r => (take finish r.1).map fun s => (s, r.2)
end Cert.KernelIdeal.Run

end
-- ==== Proof.K.Whole.lean ====
/- The run of the body, from what a device starts with to what it ends with. -/
module

public import proofs.«01_k».proof.Proof.K.Sim

@[expose] public section

noncomputable section

namespace Cert.KernelIdeal.Run

open Idealize.ShloMosaic Idealize.ShloMosaic.TcCoe
open Idealize.SL Idealize.SL.RA Idealize.SL.Sem Idealize.SL.ProofMode
open Idealize.SL.BI (sProp bigSep bigSepL)
open scoped Idealize.SL.BI
open Idealize.SL.BI.BIBase Idealize.SL.BI.Laws
open Idealize.ShloMosaic.Rounds
open Cert.KernelIdeal.Gen

variable {F : FTy → Type} [FloatOps F]

local notation "𝕄" => MT nD τ sig Unit (Elt F) ℕ UU ℕ

variable (I : Inp F) (N : Names)

theorem whole_eq : whole = some (0, []) := by decide +kernel

theorem St_zero (c : Dev nD) : St I c 0 = iprop(emp) := by
  unfold St
  rw [show bits 0 = ∅ from Finset.filter_eq_empty_iff.mpr fun t _ => by simp]
  rfl

theorem run_all (c : Dev nD) (W : Waits sig Unit) (Q : PUnit → sProp 𝕄) :
    iprop(Known I N ∗ owes (c : Thread nD τ) (oweSum c pends) W ∗ bigSepL start (R I c)
        ∗ (((∃ W, owes (c : Thread nD τ) 0 W) ∗ bigSepL finish (R I c)) -∗ Q ⟨⟩)) ⊢ WP c (runOps I.g c program) Q := by
  have h := whole_eq
  unfold whole at h
  obtain ⟨s₀, h₀, h⟩ := Option.bind_eq_some_iff.mp h
  obtain ⟨⟨s₁, P₁⟩, h₁, h⟩ := Option.bind_eq_some_iff.mp h
  obtain ⟨s₂, h₂, h⟩ := Option.map_eq_some_iff.mp h
  obtain ⟨rfl, rfl⟩ := Prod.mk.inj h
  iintro ⟨#HK, HO, Hl, Hk⟩
  iapply (go_sound I N c Q program s₀ pends s₁ [] h₁)
  isplitr; · iexact HK
  isplitl [HO Hl]
  · unfold Cur
    isplitl [HO]; · iexists W; iexact HO
    iapply (add_sound I c start 0 s₀ h₀)
    isplitl [Hl]; · iexact Hl
    rw [St_zero]; iempintro
  unfold Cur
  iintro ⟨HO, HS⟩
  iapply Hk
  isplitl [HO]; · iexact HO
  ihave HS := (take_sound I c finish s₁ 0 h₂) $$ HS
  icases HS with ⟨Hl, -⟩
  iexact Hl

end Cert.KernelIdeal.Run

end
-- ==== Proof.K.Carve.lean ====
/- Buffers cut into the pieces the steps use, and put together again. -/
module

public import proofs.«01_k».proof.Proof.K.Whole

@[expose] public section

noncomputable section

namespace Cert.KernelIdeal.Run

open Idealize.ShloMosaic Idealize.ShloMosaic.TcCoe
open Idealize.SL Idealize.SL.RA Idealize.SL.Sem Idealize.SL.ProofMode
open Idealize.SL.BI (sProp bigSep bigSepL)
open scoped Idealize.SL.BI
open Idealize.SL.BI.BIBase Idealize.SL.BI.Laws
open Idealize.ShloMosaic.Rounds
open Cert.KernelIdeal.Gen

variable {F : FTy → Type} [FloatOps F]

local notation "𝕄" => MT nD τ sig Unit (Elt F) ℕ UU ℕ

variable (I : Inp F)

/-! ## Lists -/

theorem bigSepL_flatMap {A B : Type} (l : List A) (f : A → List B) (Φ : B → sProp 𝕄) :
    bigSepL (l.flatMap f) Φ = bigSepL l fun a => bigSepL (f a) Φ := by
  induction l with
  | nil => rfl
  | cons a l ih => rw [List.flatMap_cons, BI.bigSepL_append, BI.bigSepL_cons', ih]
theorem onAll_eq (l : List Kind) (Φ : Tok → sProp 𝕄) : bigSepL (onAll l) Φ = bigSepL l fun k => bigSepL all16 fun i => Φ (k, i) := by
  unfold onAll; rw [bigSepL_flatMap]; exact congrArg (bigSepL l) (funext fun k => BI.bigSepL_map _ _ _)
theorem all16_univ : (Finset.univ : Finset (Fin 16)) = all16.toFinset := by decide
theorem bigSep16 (Φ : Fin 16 → sProp 𝕄) : bigSep Finset.univ Φ = bigSepL all16 Φ := BI.bigSep_univ_eq_bigSepL all16 all16_univ (by decide) Φ
theorem bigSepBlk (Φ : Blk → sProp 𝕄) : bigSep Finset.univ Φ = bigSepL blks Φ := BI.bigSep_univ_eq_bigSepL blks (by decide) (by decide) Φ
theorem bigSepL_sep {J : Type} (l : List J) (Φ Ψ : J → sProp 𝕄) : bigSepL l (fun j => iprop(Φ j ∗ Ψ j)) = iprop(bigSepL l Φ ∗ bigSepL l Ψ) := by
  induction l with
  | nil => rw [bigSepL_nil', bigSepL_nil', bigSepL_nil']; exact (BI.equiv_iff.mp BI.emp_sep).symm
  | cons a l ih =>
    rw [BI.bigSepL_cons', BI.bigSepL_cons', BI.bigSepL_cons', ih]
    refine BI.equiv_iff.mp ⟨?_, ?_⟩
    · show iprop((Φ a ∗ Ψ a) ∗ bigSepL l Φ ∗ bigSepL l Ψ) ⊢ iprop((Φ a ∗ bigSepL l Φ) ∗ Ψ a ∗ bigSepL l Ψ)
      iintro ⟨⟨H1, H2⟩, H3, H4⟩
      isplitl [H1 H3]; · isplitl [H1] <;> iassumption
      isplitl [H2] <;> iassumption
    · show iprop((Φ a ∗ bigSepL l Φ) ∗ Ψ a ∗ bigSepL l Ψ) ⊢ iprop((Φ a ∗ Ψ a) ∗ bigSepL l Φ ∗ bigSepL l Ψ)
      iintro ⟨⟨H1, H2⟩, H3, H4⟩
      isplitl [H1 H3]; · isplitl [H1] <;> iassumption
      isplitl [H2] <;> iassumption

/-! ## A family of disjoint rectangles -/

/-- Contents of the whole from contents of disjoint parts. -/
theorem glue {s : Shape} {α : Type} [Nonempty α] {T : Type} (r : T → Rect s) (hd : ∀ t t', t ≠ t' → Disjoint (r t).set (r t').set)
    (Y : ∀ t, (r t).shape.Idx → α) : ∃ X : s.Idx → α, ∀ t j, X ((r t).emb j) = Y t j := by
  classical
  refine ⟨fun x => if h : ∃ p : (t : T) × (r t).shape.Idx, (r p.1).emb p.2 = x then Y h.choose.1 h.choose.2 else Classical.arbitrary _, fun t j => ?_⟩
  have h : ∃ p : (t : T) × (r t).shape.Idx, (r p.1).emb p.2 = (r t).emb j := ⟨⟨t, j⟩, rfl⟩
  refine (dif_pos h).trans ?_
  have hc := h.choose_spec
  generalize h.choose = p at hc
  obtain ⟨t', j'⟩ := p
  have ht : t' = t := by
    by_contra hne
    refine Finset.disjoint_left.mp (hd _ _ hne) (show (r t).emb j ∈ (r t').set from ?_) ?_
    · rw [← hc, ← (r t').map_emb_univ]; exact Finset.mem_map_of_mem _ (Finset.mem_univ j')
    · rw [← (r t).map_emb_univ]; exact Finset.mem_map_of_mem _ (Finset.mem_univ j)
  subst ht
  rw [(r t').emb.injective hc]

theorem rC_disjoint : ∀ i i' : Fin 16, i ≠ i' → Disjoint (rC i).set (rC i').set := fun i i' h =>
  Rect.unit_disjoint 0 (by
    show 32 * i.val + 32 ≤ 32 * i'.val ∨ 32 * i'.val + 32 ≤ 32 * i.val
    have : i.val ≠ i'.val := fun e => h (Fin.ext e)
    omega)
theorem rC_cover : (Finset.univ : Finset (Fin 16)).biUnion (fun i => (rC i).set) = Finset.univ := by
  ext x
  simp only [Finset.mem_biUnion, Finset.mem_univ, true_and, iff_true]
  have h0 : (x 0 : ℕ) < 512 := (x 0).isLt
  have h1 : (x 1 : ℕ) < 2048 := (x 1).isLt
  refine ⟨⟨(x 0 : ℕ) / 32, by omega⟩, Rect.mem_set_unit.mpr fun a => ?_⟩
  match a with
  | 0 => show 32 * ((x 0 : ℕ) / 32) ≤ (x 0 : ℕ) ∧ (x 0 : ℕ) < 32 * ((x 0 : ℕ) / 32) + 32; omega
  | 1 => show 0 ≤ (x 1 : ℕ) ∧ (x 1 : ℕ) < 0 + 2048; omega

variable (c : Dev nD)

theorem chunks_cut {e : EltTy} (b : Ref sig .tc) (f : Buf (Elt F) ((c : Thread nD τ).loc b)) (M : Memref sig .tc .vmem S512x2048 e)
    (hM : ∃ X, (((c : Thread nD τ).loc b) ↦{fullShare} f : sProp 𝕄) ⊢ ow c M fullShare X) :
    (((c : Thread nD τ).loc b) ↦{fullShare} f : sProp 𝕄) ⊢ bigSepL all16 fun i => owAny c (chunk M i) := by
  obtain ⟨X, hX⟩ := hM
  refine hX.trans ((owns_rects (c : Thread nD τ) M fullShare rC (fun _ _ => rfl) rC_disjoint rC_cover X).trans ?_)
  rw [bigSep16]
  refine BI.bigSepL_mono fun i _ => ?_
  iintro H; iexists _; iexact H

theorem chunks_join {e : EltTy} (M : Memref sig .tc .vmem S512x2048 e) (q : PosShare TreeShare) (Y : Fin 16 → S32x2048.Idx → Elt F e) :
    (bigSepL all16 fun i => ow c (chunk M i) q (Y i)) ⊢ (∃ X, ow c M q X : sProp 𝕄) := by
  have : Nonempty (Elt F e) := inferInstance
  obtain ⟨X, hX⟩ := glue (α := Elt F e) rC rC_disjoint (fun i j => Y i j)
  have h := owns_of_rects (c : Thread nD τ) M q rC (fun _ _ => rfl) rC_disjoint rC_cover X (Val := Elt F) (Ix := Unit) (Name := ℕ) (U := UU) (Lvl := ℕ)
  rw [bigSep16] at h
  simp only [hX] at h
  refine BI.Entails.trans h (show ow c M q X ⊢ (∃ X, ow c M q X : sProp 𝕄) from ?_)
  iintro H; iexists X; iexact H

theorem whole_owns (b : Ref sig .tc) (q : PosShare TreeShare) (f : b.ty.Contents (Elt F)) :
    (((c : Thread nD τ).loc b) ↦{q} f : sProp 𝕄) = owns (c : Thread nD τ) (Memref.whole b) q f := (owns_whole (c : Thread nD τ) b q f).symm

/-! ## The result -/

/-- Which quarter of the result each block is. -/
def quarter (b : Blk) (c : Dev nD) : ℕ :=
  let y := (c.val / 2) % 2
  let z := c.val % 2
  match b with
  | .m => 2 * y + z | .y => 2 * (1 - y) + z | .z => 2 * y + (1 - z) | .d => 2 * (1 - y) + (1 - z)
def outOff (b : Blk) (c : Dev nD) (i : Fin 16) : Fin 2 → ℕ := ![512 * quarter b c + 32 * i.val, 0]
theorem quarter_lt : ∀ (b : Blk) (c : Dev nD), quarter b c < 4 := by decide
theorem quarter_inj : ∀ (c : Dev nD) (b b' : Blk), quarter b c = quarter b' c → b = b' := by decide
theorem quarter_onto : ∀ (c : Dev nD) (q : Fin 4), ∃ b, quarter b c = q.val := by decide
theorem outOff_inb (b : Blk) (c : Dev nD) (i : Fin 16) : ∀ a, outOff b c i a + S32x2048.size a ≤ S2048x2048.size a := fun a => by
  have := quarter_lt b c
  match a with
  | 0 => show 512 * quarter b c + 32 * i.val + 32 ≤ 2048; omega
  | 1 => show 0 + 2048 ≤ 2048; omega
abbrev outR (b : Blk) (c : Dev nD) (i : Fin 16) : Rect S2048x2048 := Rect.unit (s := S2048x2048) (outOff b c i) S32x2048.size (outOff_inb b c i)

theorem off_m : ∀ (c : Dev nD) (i : Fin 16), k0_off3 c (word i) = outOff .m c i := by decide +kernel
theorem off_y : ∀ (c : Dev nD) (i : Fin 16), k0_off4 c (word i) = outOff .y c i := by decide +kernel
theorem off_z : ∀ (c : Dev nD) (i : Fin 16), k0_off5 c (word i) = outOff .z c i := by decide +kernel
theorem off_d : ∀ (c : Dev nD) (i : Fin 16), k0_off6 c (word i) = outOff .d c i := by decide +kernel
theorem slice_off {o o' : Fin 2 → ℕ} (h : o = o') (hb : ∀ a, o a + S32x2048.size a ≤ S2048x2048.size a) (hb' : ∀ a, o' a + S32x2048.size a ≤ S2048x2048.size a) :
    MO.slice (Rect.unit (s := S2048x2048) o S32x2048.size hb) (fun _ => rfl) = MO.slice (Rect.unit (s := S2048x2048) o' S32x2048.size hb') (fun _ => rfl) := by
  subst h; rfl
theorem outC_eq (b : Blk) (i : Fin 16) : outC b c i = MO.slice (outR b c i) (fun _ => rfl) := by
  cases b
  · exact slice_off (off_m c i) _ _
  · exact slice_off (off_y c i) _ _
  · exact slice_off (off_z c i) _ _
  · exact slice_off (off_d c i) _ _

theorem outR_disjoint : ∀ t t' : Blk × Fin 16, t ≠ t' → Disjoint (outR t.1 c t.2).set (outR t'.1 c t'.2).set := fun t t' h =>
  Rect.unit_disjoint 0 (by
    show 512 * quarter t.1 c + 32 * t.2.val + 32 ≤ 512 * quarter t'.1 c + 32 * t'.2.val ∨ 512 * quarter t'.1 c + 32 * t'.2.val + 32 ≤ 512 * quarter t.1 c + 32 * t.2.val
    have h1 := t.2.isLt
    have h2 := t'.2.isLt
    have : quarter t.1 c ≠ quarter t'.1 c ∨ t.2.val ≠ t'.2.val := by
      by_contra hn
      push Not at hn
      exact h (Prod.ext (quarter_inj c _ _ hn.1) (Fin.ext hn.2))
    omega)
theorem outR_cover : (Finset.univ : Finset (Blk × Fin 16)).biUnion (fun t => (outR t.1 c t.2).set) = Finset.univ := by
  ext x
  simp only [Finset.mem_biUnion, Finset.mem_univ, true_and, iff_true]
  have h0 : (x 0 : ℕ) < 2048 := (x 0).isLt
  have h1 : (x 1 : ℕ) < 2048 := (x 1).isLt
  obtain ⟨b, hb⟩ := quarter_onto c ⟨(x 0 : ℕ) / 512, by omega⟩
  dsimp only at hb
  refine ⟨(b, ⟨(x 0 : ℕ) % 512 / 32, by omega⟩), Rect.mem_set_unit.mpr fun a => ?_⟩
  match a with
  | 0 =>
    show 512 * quarter b c + 32 * ((x 0 : ℕ) % 512 / 32) ≤ (x 0 : ℕ) ∧ (x 0 : ℕ) < 512 * quarter b c + 32 * ((x 0 : ℕ) % 512 / 32) + 32
    omega
  | 1 => show 0 ≤ (x 1 : ℕ) ∧ (x 1 : ℕ) < 0 + 2048; omega

theorem outAll_ex : ∃ X : S2048x2048.Idx → Elt F .f32, ∀ (b : Blk) (i : Fin 16) (j : S32x2048.Idx), X ((outR b c i).emb j) = outV I b c i j := by
  have : ∀ e, Nonempty (Elt F e) := inferInstance
  have := this .f32
  obtain ⟨X, hX⟩ := glue (α := Elt F .f32) (fun t : Blk × Fin 16 => outR t.1 c t.2) (outR_disjoint c) (fun t j => outV I t.1 c t.2 j)
  exact ⟨X, fun b i j => hX (b, i) j⟩
/-- What a device's result holds at the end. -/
def outAll : S2048x2048.Idx → Elt F .f32 := (outAll_ex I c).choose
theorem outAll_at (b : Blk) (i : Fin 16) (j : S32x2048.Idx) : outAll I c ((outR b c i).emb j) = outV I b c i j :=
  (outAll_ex I c).choose_spec b i j

theorem bigSepOut (Φ : Blk × Fin 16 → sProp 𝕄) : bigSep Finset.univ Φ = bigSepL blks fun b => bigSepL all16 fun i => Φ (b, i) := by
  rw [BI.bigSep_univ_prod, bigSepBlk]
  exact congrArg (bigSepL blks) (funext fun b => bigSep16 _)

theorem out_cut (f : S2048x2048.Idx → Elt F .f32) :
    (((c : Thread nD τ).loc main_v2) ↦{fullShare} f : sProp 𝕄) ⊢ bigSepL blks fun b => bigSepL all16 fun i => owAny c (outC b c i) := by
  rw [whole_owns]
  refine (owns_rects (c : Thread nD τ) MO fullShare (fun t : Blk × Fin 16 => outR t.1 c t.2) (fun _ _ => rfl) (outR_disjoint c) (outR_cover c) (Val := Elt F) f).trans ?_
  rw [bigSepOut]
  refine BI.bigSepL_mono fun b _ => BI.bigSepL_mono fun i _ => ?_
  rw [outC_eq]
  iintro H; iexists _; iexact H

theorem out_join : (bigSepL blks fun b => bigSepL all16 fun i => ow c (outC b c i) fullShare (outV I b c i))
    ⊢ (((c : Thread nD τ).loc main_v2) ↦{fullShare} outAll I c : sProp 𝕄) := by
  rw [whole_owns]
  have h := owns_of_rects (c : Thread nD τ) MO fullShare (fun t : Blk × Fin 16 => outR t.1 c t.2) (fun _ _ => rfl) (outR_disjoint c) (outR_cover c) (outAll I c)
    (Val := Elt F) (Ix := Unit) (Name := ℕ) (U := UU) (Lvl := ℕ)
  rw [bigSepOut] at h
  refine BI.Entails.trans ?_ h
  refine BI.bigSepL_mono fun b _ => BI.bigSepL_mono fun i _ => ?_
  rw [outC_eq]
  exact Entails.of_eq (congrArg _ (funext fun j => (outAll_at I c b i j).symm))

/-! ## The input -/

theorem share_cut {ℓ : Loc nD τ sig} (S T : Finset (Idx ℓ)) (h : T ⊆ S) (q : PosShare TreeShare) (f : Buf (Elt F) ℓ) :
    (ℓ ↦[S]{q} f : sProp 𝕄) ⊢ iprop((ℓ ↦[T]{q.left} f) ∗ (ℓ ↦[S]{q.right} f) ∗ ((ℓ ↦[T]{q.left} f) ∗ (ℓ ↦[S]{q.right} f) -∗ ℓ ↦[S]{q} f)) := by
  iintro H
  ihave H := (pointsTo_share (PosShare.mem_left_op_right q)).1 $$ H
  icases H with ⟨Hl, Hr⟩
  ihave Hl := (pointsTo_split_subset h).1 $$ Hl
  icases Hl with ⟨Ht, Hs⟩
  isplitl [Ht]; · iexact Ht
  isplitl [Hr]; · iexact Hr
  iintro ⟨Ht, Hr⟩
  iapply (pointsTo_share (PosShare.mem_left_op_right q)).2
  isplitr [Hr]
  · iapply (pointsTo_split_subset h).2
    isplitl [Ht] <;> iassumption
  · iexact Hr

theorem src_cut {s : Shape} (M : Memref sig .tc .hbm s .f32) (q : PosShare TreeShare) (f : Buf (Elt F) (M.view.loc (c : Thread nD τ))) :
    (M.view.loc (c : Thread nD τ) ↦{q} f : sProp 𝕄) ⊢ iprop(srcPt c M q.left f ∗ (M.view.loc (c : Thread nD τ) ↦{q.right} f) ∗ (srcPt c M q.left f ∗ (M.view.loc (c : Thread nD τ) ↦{q.right} f) -∗ M.view.loc (c : Thread nD τ) ↦{q} f)) :=
  share_cut (F := F) (ℓ := M.view.loc (c : Thread nD τ)) Finset.univ M.view.set (Finset.subset_univ _) q f

abbrev inp (c : Dev nD) (q : PosShare TreeShare) : sProp 𝕄 := ((c : Thread nD τ).loc main_arg0) ↦{q} I.A c

theorem raw_loc (i : Fin 16) (q : PosShare TreeShare) : ((prawSrc c i).view.loc (c : Thread nD τ) ↦{q} (I.A c) : sProp 𝕄) = inp I c q := rfl
theorem mine_loc (q : PosShare TreeShare) : ((mineSrc c).view.loc (c : Thread nD τ) ↦{q} (I.A c) : sProp 𝕄) = inp I c q := rfl
theorem shr_succ (n : ℕ) : shr (n + 1) = (shr n).right := rfl

theorem raw_one (i : Fin 16) (n : ℕ) (hn : i.val = n) : inp I c (shr (n + 1)) ⊢ iprop(rawPt I c i ∗ inp I c (shr (n + 1 + 1)) ∗ (rawPt I c i ∗ inp I c (shr (n + 1 + 1)) -∗ inp I c (shr (n + 1)))) := by
  subst hn
  have h := src_cut c (prawSrc c i) (shr (i.val + 1)) (I.A c)
  rw [raw_loc, raw_loc, ← shr_succ] at h
  exact h

theorem raw_cut (n : ℕ) : n ≤ 16 → (inp I c (shr 1)) ⊢ iprop(bigSepL (all16.take n) (rawPt I c) ∗ inp I c (shr (n + 1))
    ∗ (bigSepL (all16.take n) (rawPt I c) ∗ inp I c (shr (n + 1)) -∗ inp I c (shr 1))) := by
  induction n with
  | zero =>
    intro _
    rw [List.take_zero, bigSepL_nil']
    iintro H
    isplitr; · iempintro
    isplitl [H]; · iexact H
    iintro ⟨-, H⟩; iexact H
  | succ n ih =>
    intro hn
    have e : all16.take (n + 1) = all16.take n ++ [⟨n, by omega⟩] := by
      have : ∀ m : Fin 16, all16.take (m.val + 1) = all16.take m.val ++ [m] := by decide
      exact this ⟨n, by omega⟩
    have hs := raw_one I c ⟨n, by omega⟩ n rfl
    rw [e, BI.bigSepL_append, BI.bigSepL_cons', bigSepL_nil']
    generalize rawPt I c ⟨n, by omega⟩ = X at hs ⊢
    generalize inp I c (shr (n + 1 + 1)) = Y at hs ⊢
    iintro H
    ihave H := (ih (by omega)) $$ H
    icases H with ⟨Hl, Hn, Hw⟩
    ihave Hn := hs $$ Hn
    icases Hn with ⟨Ht, Hr, Hv⟩
    isplitl [Hl Ht]
    · isplitl [Hl]; · iexact Hl
      isplitl [Ht]; · iexact Ht
      iempintro
    isplitl [Hr]; · iexact Hr
    iintro ⟨⟨Hl, Ht, -⟩, Hr⟩
    iapply Hw
    isplitl [Hl]; · iexact Hl
    iapply Hv
    isplitl [Ht]; · iexact Ht
    iexact Hr

theorem mine_one : inp I c fullShare ⊢ iprop(minePt I c ∗ inp I c (shr 1) ∗ (minePt I c ∗ inp I c (shr 1) -∗ inp I c fullShare)) := by
  have h := src_cut c (mineSrc c) fullShare (I.A c)
  rw [mine_loc, mine_loc] at h
  exact h

theorem inp_cut : inp I c fullShare ⊢ iprop(minePt I c ∗ bigSepL all16 (rawPt I c) ∗ (minePt I c ∗ bigSepL all16 (rawPt I c) -∗ inp I c fullShare)) := by
  have hr := raw_cut I c 16 (le_refl _)
  rw [show all16.take 16 = all16 from rfl] at hr
  iintro H
  ihave H := (mine_one I c) $$ H
  icases H with ⟨Ht, Hr, Hv⟩
  ihave Hr := hr $$ Hr
  icases Hr with ⟨Hl, Hn, Hw⟩
  isplitl [Ht]; · iexact Ht
  isplitl [Hl]; · iexact Hl
  iintro ⟨Ht, Hl⟩
  iapply Hv
  isplitl [Ht]; · iexact Ht
  iapply Hw
  isplitl [Hl]; · iexact Hl
  iexact Hn

end Cert.KernelIdeal.Run

end
-- ==== Proof.K.Mem.lean ====
/- What a device's buffers are at the start of the body, as the tokens it starts with; and back at the end. -/
module

public import proofs.«01_k».proof.Proof.K.Carve

@[expose] public section

noncomputable section

namespace Cert.KernelIdeal.Run

open Idealize.ShloMosaic Idealize.ShloMosaic.TcCoe
open Idealize.SL Idealize.SL.RA Idealize.SL.Sem Idealize.SL.ProofMode
open Idealize.SL.BI (sProp bigSep bigSepL)
open scoped Idealize.SL.BI
open Idealize.SL.BI.BIBase Idealize.SL.BI.Laws
open Idealize.ShloMosaic.Rounds
open Cert.KernelIdeal.Gen

variable {F : FTy → Type} [FloatOps F]

local notation "𝕄" => MT nD τ sig Unit (Elt F) ℕ UU ℕ

variable (I : Inp F) (c : Dev nD)

/-- The sixteen chunks of a buffer, each at some contents. -/
abbrev anys {e : EltTy} (c : Dev nD) (M : Memref sig .tc .vmem S512x2048 e) : sProp 𝕄 := bigSepL all16 fun i => owAny c (chunk M i)

theorem ref_s : Buf16.s.ref = Sbuf := rfl
theorem ref_x : Buf16.x.ref = Xrecv := rfl
theorem ref_r : Buf16.r.ref = Myres := rfl
theorem ref_y : Buf16.y.ref = Yrecv := rfl
theorem ref_z : Buf16.z.ref = Zrecv := rfl
theorem ref_d : Buf16.d.ref = Diag := rfl
theorem stg_m : stg .m = StM := rfl
theorem stg_y : stg .y = StY := rfl
theorem stg_z : stg .z = StZ := rfl
theorem stg_d : stg .d = StD := rfl

theorem blks_eq (Φ : Blk → sProp 𝕄) : bigSepL blks Φ = iprop(Φ .m ∗ Φ .y ∗ Φ .z ∗ Φ .d ∗ emp) := by
  simp only [blks, BI.bigSepL_cons', bigSepL_nil']

/-- A scratch buffer at some contents. -/
abbrev bufAny (c : Dev nD) (b : Ref sig .tc) : sProp 𝕄 := iprop(∃ f : Buf (Elt F) ((c : Thread nD τ).loc b), ((c : Thread nD τ).loc b) ↦{fullShare} f)
/-- The buffers written by the neighbours. -/
def recvs (c : Dev nD) : sProp 𝕄 := iprop(anys c Xrecv ∗ anys c Yrecv ∗ anys c Zrecv ∗ anys c Diag)
/-- All scratch buffers. -/
def scr (c : Dev nD) : sProp 𝕄 := iprop(bufAny c cc0_scratch0 ∗ bufAny c cc0_scratch1 ∗ bufAny c cc0_scratch2 ∗ bufAny c cc0_scratch3 ∗ bufAny c cc0_scratch4 ∗ bufAny c cc0_scratch5
  ∗ bufAny c cc0_scratch6 ∗ bufAny c cc0_scratch7 ∗ bufAny c cc0_scratch8 ∗ bufAny c cc0_scratch9 ∗ bufAny c cc0_scratch10 ∗ bufAny c cc0_scratch11)

theorem cut32 (b : Ref sig .tc) {e : EltTy} (M : Memref sig .tc .vmem S512x2048 e)
    (h : ∀ f : Buf (Elt F) ((c : Thread nD τ).loc b), ∃ X, (((c : Thread nD τ).loc b) ↦{fullShare} f : sProp 𝕄) ⊢ ow c M fullShare X) :
    bufAny c b ⊢ (anys c M : sProp 𝕄) := by
  iintro ⟨%f, H⟩
  iapply (chunks_cut c b f M (h f)); iexact H
theorem join32 (b : Ref sig .tc) {e : EltTy} (M : Memref sig .tc .vmem S512x2048 e)
    (h : ∀ X, (ow c M fullShare X : sProp 𝕄) ⊢ bufAny c b) (Y : Fin 16 → S32x2048.Idx → Elt F e) :
    (bigSepL all16 fun i => ow c (chunk M i) fullShare (Y i)) ⊢ (bufAny c b : sProp 𝕄) := by
  refine (chunks_join c M fullShare Y).trans ?_
  iintro ⟨%X, H⟩
  iapply (h X); iexact H
theorem of_whole (b : Ref sig .tc) (f : b.ty.Contents (Elt F)) : ∃ X : b.ty.Contents (Elt F), (((c : Thread nD τ).loc b) ↦{fullShare} f : sProp 𝕄) ⊢ ow c (Memref.whole b) fullShare X :=
  ⟨f, Entails.of_eq (whole_owns c b fullShare f)⟩
theorem to_whole (b : Ref sig .tc) (f : b.ty.Contents (Elt F)) : (ow c (Memref.whole b) fullShare f : sProp 𝕄) ⊢ bufAny c b := by
  refine (Entails.of_eq (whole_owns c b fullShare f).symm).trans ?_
  iintro H; iexists f; iexact H

theorem mem_start (f : S2048x2048.Idx → Elt F .f32) :
    iprop(scr c ∗ inp I c fullShare ∗ (((c : Thread nD τ).loc main_v2) ↦{fullShare} f) ∗ ow c I.g fullShare (I.G c))
      ⊢ iprop(bigSepL memStart (R I c) ∗ recvs c ∗ (minePt I c ∗ bigSepL all16 (rawPt I c) -∗ inp I c fullShare)) := by
  unfold memStart scr recvs
  simp only [onAll_eq, BI.bigSepL_append, sgls, List.map_cons, List.map_nil, BI.bigSepL_cons', bigSepL_nil', R_any, R_stAny, R_rawAny, R_outAny, R_rawSrc, R_mineAny, R_mineSrc, R_gam, BI.bigSepL_map]
  simp only [blks_eq (fun b => anys c (stg b)), ref_s, ref_r, stg_m, stg_y, stg_z, stg_d]
  iintro ⟨⟨⟨%f0, H0⟩, H1, H2, H3, H4, H5, H6, H7, H8, H9, H10, H11⟩, Hi, Ho, Hg⟩
  ihave Hi := (inp_cut I c) $$ Hi
  icases Hi with ⟨Hm, Hr, Hw⟩
  ihave Ho := (out_cut c f) $$ Ho
  ihave H1 := (cut32 c cc0_scratch1 Praw (of_whole c cc0_scratch1)) $$ H1
  ihave H2 := (cut32 c cc0_scratch2 Sbuf (of_whole c cc0_scratch2)) $$ H2
  ihave H3 := (cut32 c cc0_scratch3 Xrecv (of_whole c cc0_scratch3)) $$ H3
  ihave H4 := (cut32 c cc0_scratch4 Myres (of_whole c cc0_scratch4)) $$ H4
  ihave H5 := (cut32 c cc0_scratch5 Yrecv (of_whole c cc0_scratch5)) $$ H5
  ihave H6 := (cut32 c cc0_scratch6 Zrecv (of_whole c cc0_scratch6)) $$ H6
  ihave H7 := (cut32 c cc0_scratch7 Diag (of_whole c cc0_scratch7)) $$ H7
  ihave H8 := (cut32 c cc0_scratch8 StM (of_whole c cc0_scratch8)) $$ H8
  ihave H9 := (cut32 c cc0_scratch9 StY (of_whole c cc0_scratch9)) $$ H9
  ihave H10 := (cut32 c cc0_scratch10 StZ (of_whole c cc0_scratch10)) $$ H10
  ihave H11 := (cut32 c cc0_scratch11 StD (of_whole c cc0_scratch11)) $$ H11
  ihave H0 := (Entails.of_eq (whole_owns c cc0_scratch0 fullShare f0)) $$ H0
  isplitr [H3 H5 H6 H7 Hw]
  · isplitr [H0 Hm Hg]
    · isplitr [Hr]
      · isplitr [Ho]
        · isplitr [H1]
          · isplitl [H2 H4]
            · isplitl [H2]; · iexact H2
              isplitl [H4]; · iexact H4
              iempintro
            isplitl [H8]; · iexact H8
            isplitl [H9]; · iexact H9
            isplitl [H10]; · iexact H10
            isplitl [H11]; · iexact H11
            iempintro
          isplitl [H1]; · iexact H1
          iempintro
        · iexact Ho
      · isplitl [Hr]; · iexact Hr
        iempintro
    · isplitl [H0]; · iexists f0; iexact H0
      isplitl [Hm]; · iexact Hm
      isplitl [Hg]; · iexact Hg
      iempintro
  isplitr [Hw]
  · isplitl [H3]; · iexact H3
    isplitl [H5]; · iexact H5
    isplitl [H6]; · iexact H6
    iexact H7
  iexact Hw

theorem halves_join (i : Fin 16) : iprop(ow c (chunk Myres i) fullShare.left (val I .r c i) ∗ ow c (chunk Myres i) fullShare.right (val I .r c i)) ⊢ (ow c (chunk Myres i) fullShare (val I .r c i) : sProp 𝕄) :=
  (owns_halves (Val := Elt F) (c : Thread nD τ) (chunk Myres i) fullShare (val I .r c i)).2

theorem mem_end :
    iprop(bigSepL memEnd (R I c) ∗ (minePt I c ∗ bigSepL all16 (rawPt I c) -∗ inp I c fullShare))
      ⊢ iprop(scr c ∗ inp I c fullShare ∗ (((c : Thread nD τ).loc main_v2) ↦{fullShare} outAll I c) ∗ ow c I.g fullShare (I.G c)) := by
  unfold memEnd scr
  simp only [onAll_eq, BI.bigSepL_append, sgls, List.map_cons, List.map_nil, BI.bigSepL_cons', bigSepL_nil', R_full, R_half, R_stHas, R_rawHas, R_outHas, R_rawSrc, R_mineHas, R_mineSrc, R_gam, BI.bigSepL_map]
  simp only [blks_eq (fun b => bigSepL all16 fun i => ow c (chunk (stg b) i) fullShare (outV I b c i)), ref_s, ref_x, ref_y, ref_z, ref_d, stg_m, stg_y, stg_z, stg_d, Bool.false_eq_true, if_false, if_true]
  iintro ⟨⟨⟨⟨⟨⟨H2, H3, H4l, H4r, H5, H6, H7, -⟩, ⟨H8, H9, H10, H11, -⟩, H1, -⟩, Ho⟩, Hr, -⟩, H0, Hm, Hg, -⟩, Hw⟩
  ihave Hi := Hw $$ [Hm Hr]
  · isplitl [Hm]; · iexact Hm
    iexact Hr
  ihave Ho := (out_join I c) $$ Ho
  ihave H4 := (Entails.of_eq (bigSepL_sep all16 (fun i => ow c (chunk Myres i) fullShare.left (val I .r c i)) (fun i => ow c (chunk Myres i) fullShare.right (val I .r c i))).symm) $$ [H4l H4r]
  · isplitl [H4l]; · iexact H4l
    iexact H4r
  ihave H4 := (BI.bigSepL_mono (fun i _ => halves_join I c i)) $$ H4
  ihave H1 := (join32 c cc0_scratch1 Praw (to_whole c cc0_scratch1) _) $$ H1
  ihave H2 := (join32 c cc0_scratch2 Sbuf (to_whole c cc0_scratch2) _) $$ H2
  ihave H3 := (join32 c cc0_scratch3 Xrecv (to_whole c cc0_scratch3) _) $$ H3
  ihave H4 := (join32 c cc0_scratch4 Myres (to_whole c cc0_scratch4) _) $$ H4
  ihave H5 := (join32 c cc0_scratch5 Yrecv (to_whole c cc0_scratch5) _) $$ H5
  ihave H6 := (join32 c cc0_scratch6 Zrecv (to_whole c cc0_scratch6) _) $$ H6
  ihave H7 := (join32 c cc0_scratch7 Diag (to_whole c cc0_scratch7) _) $$ H7
  ihave H8 := (join32 c cc0_scratch8 StM (to_whole c cc0_scratch8) _) $$ H8
  ihave H9 := (join32 c cc0_scratch9 StY (to_whole c cc0_scratch9) _) $$ H9
  ihave H10 := (join32 c cc0_scratch10 StZ (to_whole c cc0_scratch10) _) $$ H10
  ihave H11 := (join32 c cc0_scratch11 StD (to_whole c cc0_scratch11) _) $$ H11
  ihave H0 := (to_whole c cc0_scratch0 _) $$ H0
  isplitr [Hi Ho Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [Hi]; · iexact Hi
  isplitl [Ho]; · iexact Ho
  iexact Hg

end Cert.KernelIdeal.Run

end
-- ==== Proof.K.Deal.lean ====
/- The cells listed, what is owed to each, the credit a device is launched with, and who gets which duty token. -/
module

public import proofs.«01_k».proof.Proof.K.Mem

@[expose] public section

noncomputable section

namespace Cert.KernelIdeal.Run

open Idealize.ShloMosaic Idealize.ShloMosaic.TcCoe
open Idealize.SL Idealize.SL.RA Idealize.SL.Sem Idealize.SL.ProofMode
open Idealize.SL.BI (sProp bigSep bigSepL)
open scoped Idealize.SL.BI
open Idealize.SL.BI.BIBase Idealize.SL.BI.Laws
open Idealize.ShloMosaic.Rounds
open Cert.KernelIdeal.Gen

variable {F : FTy → Type} [FloatOps F]

local notation "𝕄" => MT nD τ sig Unit (Elt F) ℕ UU ℕ

variable (I : Inp F) (c : Dev nD)

/-! ## The cells of a device, listed -/

/-- A device's cells, apart from its barrier. -/
def cellL : List (CK × Fin 16) := (cellKs.flatMap fun k => all16.map fun i => (k, i)) ++ [(.mine, 0)]
abbrev OK : Type := {p : CK × Fin 16 // p.1.ok p.2 = true}
def osem (p : OK) : SemLoc sig := .dma (p.1.1.sem p.1.2)

theorem cellL_nodup : cellL.Nodup := by decide +kernel
theorem mem_cellL : ∀ (k : CK) (i : Fin 16), (k, i) ∈ cellL ↔ k.ok i = true := by decide +kernel
theorem cellL_set : (Finset.univ.filter fun p : CK × Fin 16 => p.1.ok p.2 = true) = cellL.toFinset := by
  ext ⟨k, i⟩
  rw [Finset.mem_filter, List.mem_toFinset, mem_cellL]
  exact and_iff_right (Finset.mem_univ _)
theorem bigSep_ok (Φ : CK × Fin 16 → sProp 𝕄) : bigSep (Finset.univ : Finset OK) (fun p => Φ p.1) = bigSepL cellL Φ := by
  rw [BI.bigSep_subtype (fun p : CK × Fin 16 => p.1.ok p.2 = true) Φ]
  exact BI.bigSep_eq_bigSepL_of_eq cellL cellL_set cellL_nodup Φ

theorem osem_inj : Function.Injective osem := fun p p' h => by
  have e : p.1.1.sem p.1.2 = p'.1.1.sem p'.1.2 := by injection h
  have d := decode_sem p.1.1 p.1.2 p.2
  rw [e, decode_sem p'.1.1 p'.1.2 p'.2] at d
  exact Subtype.ext (Option.some.inj d).symm

theorem cell_eq {c c' : Dev nD} {k k' : CK} {i i' : Fin 16} (h : k.ok i = true) (h' : k'.ok i' = true) (e : cell c k i = cell c' k' i') : c = c' ∧ k = k' ∧ i = i' := by
  have e1 : c = c' := congrArg (fun g : GSem nD τ sig => g.1.1) e
  have e2 : osem ⟨(k, i), h⟩ = osem ⟨(k', i'), h'⟩ := congrArg Prod.snd e
  have e3 := congrArg Subtype.val (osem_inj e2)
  exact ⟨e1, congrArg Prod.fst e3, congrArg Prod.snd e3⟩
theorem cell_ne_bar (c c' : Dev nD) (k : CK) (i : Fin 16) : cell c k i ≠ barCell c' := fun h => by
  have : SemLoc.dma (k.sem i) = SemLoc.reg barS := congrArg Prod.snd h
  cases this

/-! ## What is owed to a cell at the start -/

theorem owe_filter (d : Dev nD) (q : Pend → Bool) (g : GSem nD τ sig) (h : ∀ p, q p = false → p.cell d ≠ g) :
    ∀ P : List Pend, oweSum d P g () = oweSum d (P.filter q) g ()
  | [] => rfl
  | p :: P => by
    rw [List.filter_cons]
    cases hq : q p
    · show (oweSum d P + tallyAt (p.cell d) () p.amt) g () = _
      rw [Pi.add_apply, Finsupp.add_apply, tallyAt_ne_cell (fun e => h p hq e.symm), owe_filter d q g h P]; rfl
    · show (oweSum d P + tallyAt (p.cell d) () p.amt) g () = (oweSum d (P.filter q) + tallyAt (p.cell d) () p.amt) g ()
      rw [Pi.add_apply, Finsupp.add_apply, Pi.add_apply, Finsupp.add_apply, owe_filter d q g h P]

def Pend.isRem (l : Ln) (i : Fin 16) : Pend → Bool
  | .rem h j => decide (h.ln = l) && decide (j = i) | .bar _ => false
def Pend.isBar : Pend → Bool
  | .bar _ => true | .rem _ _ => false
theorem pends_rem : ∀ (l : Ln) (i : Fin 16), pends.filter (Pend.isRem l i) = [.rem (l.ch i) i] := by decide +kernel
theorem pends_bar : pends.filter Pend.isBar = [.bar 0, .bar 1, .bar 2] := by decide +kernel

theorem ch_ln : ∀ (l : Ln) (i : Fin 16), (l.ch i).ln = l := by decide +kernel
theorem peer_peer : ∀ (h : Ch) (c : Dev nD), h.peer (h.peer c) = c := by decide +kernel

theorem owed_cell (d c : Dev nD) (l : Ln) (i : Fin 16) : oweSum d pends (cell c (.sR l) i) () = if d = (l.ch i).peer c then N16 else 0 := by
  rw [owe_filter d (Pend.isRem l i) _ (fun p hp => ?_), pends_rem]
  · show (0 + tallyAt (cell ((l.ch i).peer d) (.sR (l.ch i).ln) i) () N16) (cell c (.sR l) i) () = _
    rw [zero_add, tallyAt_apply, ch_ln]
    by_cases h : d = (l.ch i).peer c
    · subst h; rw [peer_peer, if_pos ⟨rfl, rfl⟩, if_pos rfl]
    · rw [if_neg h, if_neg]
      rintro ⟨e, -⟩
      exact h (by rw [(cell_eq rfl rfl e).1, peer_peer])
  · cases p with
    | bar k => exact fun e => cell_ne_bar _ _ _ _ e.symm
    | rem h j =>
      intro e
      obtain ⟨-, e1, e2⟩ := cell_eq rfl rfl e
      rw [CK.sR.injEq] at e1
      simp [Pend.isRem, e1, e2] at hp

theorem owed_bar (d c : Dev nD) : oweSum d pends (barCell c) () = (if d = barPeer 2 c then 1 else 0) + (if d = barPeer 1 c then 1 else 0) + (if d = barPeer 0 c then 1 else 0) := by
  rw [owe_filter d Pend.isBar _ (fun p hp => ?_), pends_bar]
  · have one (k : Fin 3) : (tallyAt (barCell (barPeer k d)) () 1 : CellTallies nD τ sig Unit) (barCell c) () = if d = barPeer k c then 1 else 0 := by
      rw [tallyAt_apply]
      by_cases h : d = barPeer k c
      · subst h; rw [barPeer_barPeer, if_pos ⟨rfl, rfl⟩, if_pos rfl]
      · rw [if_neg h, if_neg]
        rintro ⟨e, -⟩
        exact h (by rw [show c = barPeer k d from congrArg (fun g : GSem nD τ sig => g.1.1) e, barPeer_barPeer])
    show (0 + tallyAt (barCell (barPeer 2 d)) () 1 + tallyAt (barCell (barPeer 1 d)) () 1 + tallyAt (barCell (barPeer 0 d)) () 1 : CellTallies nD τ sig Unit) (barCell c) () = _
    rw [Pi.add_apply, Finsupp.add_apply, Pi.add_apply, Finsupp.add_apply, zero_add, one, one, one]
  · cases p with
    | bar k => cases hp
    | rem h j => exact cell_ne_bar _ _ _ _

/-! ## The credit a device is launched with -/

abbrev O₀ (c : Dev nD) : CellTallies nD τ sig Unit := oweSum c pends

theorem credit_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]
theorem credit_cell (c : Dev nD) (l : Ln) (i : Fin 16) :
    tallyOn (cell c (.sR l) i) (launchCredit (Pipeline.owing O₀) 0 (cell c (.sR l) i)) = (tallyAt (cell c (.sR l) i) () N16 : CellTallies nD τ sig Unit) := by
  unfold tallyAt; refine congrArg _ (Finsupp.ext fun u => ?_); cases u
  rw [Pipeline.launchCredit_owing, Finsupp.single_eq_same, Finset.sum_congr rfl fun d _ => owed_cell d c l i]
  simp only [Finset.sum_ite_eq', Finset.mem_univ, if_true]

/-- The semaphores launched with credit. -/
def paidL : List (SemLoc sig) := .reg barS :: lns.flatMap fun l => all16.map fun i => .dma ((CK.sR l).sem i)
theorem paidL_nodup : paidL.Nodup := by decide +kernel

variable (I : Inp F)

/-- The credit of the barrier and of the chunks to come. -/
def creds (c : Dev nD) : sProp 𝕄 := iprop(R I c (.barCred, 0) ∗ bigSepL lns fun l => bigSepL all16 fun i => R I c (.cred (.sR l), i))

theorem creds_intro (c : Dev nD) : (Pipeline.launchCred O₀ c : sProp 𝕄) ⊢ creds I c := by
  unfold Pipeline.launchCred creds
  refine (BI.bigSep_subset (Finset.subset_univ paidL.toFinset)).trans ?_
  rw [BI.bigSep_eq_bigSepL paidL paidL_nodup]
  unfold paidL
  rw [BI.bigSepL_cons', bigSepL_flatMap]
  simp only [BI.bigSepL_map]
  rw [R_barCred, ← credit_bar]
  refine sep_mono_right (BI.bigSepL_mono fun l _ => BI.bigSepL_mono fun i _ => ?_)
  rw [R_cred]
  exact Entails.of_eq (congrArg _ (credit_cell c l i))

/-! ## The duty tokens, each to the device that pays it -/

/-- A family over the devices, each entry taken by the device the entry's own permutation names. -/
theorem deal {J : Type} (e : J → Dev nD → Dev nD) (he : ∀ p c, e p (e p c) = c) (Ψ : Dev nD → J → sProp 𝕄) :
    ∀ l : List J, (bigSep Finset.univ fun c : Dev nD => bigSepL l (Ψ c)) = bigSep Finset.univ fun c : Dev nD => bigSepL l fun p => Ψ (e p c) p
  | [] => rfl
  | p :: l => by
    simp only [BI.bigSepL_cons', BI.bigSep_sep']
    rw [deal e he Ψ l, BI.bigSep_univ_equiv (⟨e p, e p, he p, he p⟩ : Dev nD ≃ Dev nD) (fun c => Ψ c p)]
    rfl

/-- The device that pays a cell. -/
def payer : CK × Fin 16 → Dev nD → Dev nD
  | (.sR l, i), c => (l.ch i).peer c
  | _, c => c
theorem payer_payer (p : CK × Fin 16) (c : Dev nD) : payer p (payer p c) = c := by
  obtain ⟨k, i⟩ := p
  cases k with
  | sR l => exact peer_peer _ c
  | _ => rfl

def ks : List (Fin 3) := [0, 1, 2]
theorem bigSep_ks (Φ : Fin 3 → sProp 𝕄) : bigSep Finset.univ Φ = bigSepL ks Φ :=
  BI.bigSep_univ_eq_bigSepL ks (by decide) (by decide) Φ

/-- A device's own duty tokens. -/
def toks (c : Dev nD) : sProp 𝕄 :=
  iprop(bigSepL ks (fun k => dutyTok (ER F) (barCell c) 0 k) ∗ bigSepL cellL fun p => dutyTok (ER F) (cell c p.1 p.2) 0 0)
/-- The duty tokens of what a device pays. -/
def duties (c : Dev nD) : sProp 𝕄 :=
  iprop(bigSepL ks (fun k => dutyTok (ER F) (barCell (barPeer k c)) 0 k) ∗ bigSepL cellL fun p => dutyTok (ER F) (cell (payer p c) p.1 p.2) 0 0)

theorem toks_dealt : (bigSep Finset.univ fun c : Dev nD => (toks c : sProp 𝕄)) = bigSep Finset.univ fun c : Dev nD => duties c := by
  unfold toks duties
  rw [BI.bigSep_sep', BI.bigSep_sep', deal barPeer barPeer_barPeer (fun c k => (dutyTok (ER F) (barCell c) 0 k : sProp 𝕄)),
    deal payer payer_payer (fun c p => (dutyTok (ER F) (cell c p.1 p.2) 0 0 : sProp 𝕄))]

end Cert.KernelIdeal.Run

end
-- ==== Proof.K.Open.lean ====
/- The launch's element dealt out, and from it what a device holds of the cells when the body starts. -/
module

public import proofs.«01_k».proof.Proof.K.Deal

@[expose] public section

noncomputable section

namespace Cert.KernelIdeal.Run

open Idealize.ShloMosaic Idealize.ShloMosaic.TcCoe
open Idealize.SL Idealize.SL.RA Idealize.SL.Sem Idealize.SL.ProofMode
open Idealize.SL.BI (sProp bigSep bigSepL)
open scoped Idealize.SL.BI
open Idealize.SL.BI.BIBase Idealize.SL.BI.Laws
open Idealize.ShloMosaic.Rounds
open Cert.KernelIdeal.Gen

variable {F : FTy → Type} [FloatOps F]

local notation "𝕄" => MT nD τ sig Unit (Elt F) ℕ UU ℕ

variable (I : Inp F)

/-! ## The cells as sets, and the launch's element -/

def barEmb : Dev nD ↪ GSem nD τ sig := ⟨fun c => barCell c, fun _ _ h => congrArg (fun g : GSem nD τ sig => g.1.1) h⟩
def scEmb : Dev nD × OK ↪ GSem nD τ sig :=
  ⟨fun x => cell x.1 x.2.1.1 x.2.1.2, fun x y h => by
    obtain ⟨c, ⟨⟨k, i⟩, hk⟩⟩ := x
    obtain ⟨c', ⟨⟨k', i'⟩, hk'⟩⟩ := y
    obtain ⟨rfl, rfl, rfl⟩ := cell_eq hk hk' h
    rfl⟩
def barCells : Finset (GSem nD τ sig) := Finset.univ.map barEmb
def scCells : Finset (GSem nD τ sig) := Finset.univ.map scEmb
theorem cells_disjoint : Disjoint barCells scCells := by
  rw [Finset.disjoint_left]
  rintro g h₁ h₂
  obtain ⟨c, -, rfl⟩ := Finset.mem_map.mp h₁
  obtain ⟨x, -, h⟩ := Finset.mem_map.mp h₂
  exact cell_ne_bar _ _ _ _ h
theorem bar_in (c : Dev nD) : barCell c ∈ barCells := Finset.mem_map_of_mem barEmb (Finset.mem_univ c)

def tokOf (x : Dev nD × (Fin 3 ⊕ OK)) : GSem nD τ sig × ℕ × Fin 3 := match x.2 with
  | .inl k => (barCell x.1, 0, k)
  | .inr p => (cell x.1 p.1.1 p.1.2, 0, 0)
theorem tokOf_inj : Function.Injective tokOf := fun x y h => by
  obtain ⟨c, k | ⟨⟨k, i⟩, hk⟩⟩ := x <;> obtain ⟨c', k' | ⟨⟨k', i'⟩, hk'⟩⟩ := y
  · rw [show c = c' from congrArg (fun t : GSem nD τ sig × ℕ × Fin 3 => t.1.1.1) h, show k = k' from congrArg (fun t : GSem nD τ sig × ℕ × Fin 3 => t.2.2) h]
  · exact absurd (congrArg (fun t : GSem nD τ sig × ℕ × Fin 3 => t.1) h).symm (cell_ne_bar _ _ _ _)
  · exact absurd (congrArg (fun t : GSem nD τ sig × ℕ × Fin 3 => t.1) h) (cell_ne_bar _ _ _ _)
  · obtain ⟨rfl, rfl, rfl⟩ := cell_eq hk hk' (congrArg (fun t : GSem nD τ sig × ℕ × Fin 3 => t.1) h)
    rfl
def dutyToks : Finset (GSem nD τ sig × ℕ × Fin 3) := Finset.univ.map ⟨tokOf, tokOf_inj⟩
theorem dutyToks_eq : bigSep dutyToks (fun x => (dutyTok (ER F) x.1 x.2.1 x.2.2 : sProp 𝕄)) = bigSep Finset.univ fun c : Dev nD => toks c := by
  unfold dutyToks
  rw [BI.bigSep_map, BI.bigSep_univ_prod]
  refine BI.bigSep_congr fun c _ => ?_
  rw [BI.bigSep_univ_sum, bigSep_ks]
  unfold toks
  rw [← bigSep_ok (fun p => (dutyTok (ER F) (cell c p.1 p.2) 0 0 : sProp 𝕄))]
  rfl

/-- The cells under one choice of names. -/
def names (κ : GSem nD τ sig → ℕ) : Names where
  cells := barCells ∪ scCells
  K := κ
  mem_cell c k i h := Finset.mem_union_right _ (Finset.mem_map_of_mem scEmb (Finset.mem_univ (c, (⟨(k, i), h⟩ : OK))))
  mem_bar c := Finset.mem_union_left _ (bar_in c)

/-- What every device may consult: the invariants, and that every barrier is at its first round. -/
def records (κ : GSem nD τ sig → ℕ) : sProp 𝕄 :=
  iprop((bigSep (barCells ∪ scCells) fun g => cellInv (ER F) (Rd I) (κ g) g) ∗ bigSep barCells fun g => reached (ER F) g 0)
instance records_persistent (κ : GSem nD τ sig → ℕ) : BI.Persistent (records I κ) := by unfold records; infer_instance
theorem records_known (κ : GSem nD τ sig → ℕ) : iprop(records I κ ∗ levAts L lv) ⊢ Known I (names κ) := by
  unfold records Known
  iintro ⟨⟨H, -⟩, Hl⟩
  isplitl [Hl]; · iexact Hl
  iexact H
theorem bar_at (c : Dev nD) : (bigSep barCells fun g => (reached (ER F) g 0 : sProp 𝕄)) ⊢ reached (ER F) (barCell c) 0 := BI.bigSep_elim (bar_in c)
theorem records_bar (κ : GSem nD τ sig → ℕ) (c : Dev nD) : records I κ ⊢ reached (ER F) (barCell c) 0 := by
  unfold records
  iintro ⟨-, H⟩
  iapply (bar_at c); iexact H

/-- What stays with a device from the launch. -/
def linear (c : Dev nD) : sProp 𝕄 :=
  iprop(atPos (ER F) (barCell c) 0 ∅ 0 ∗ (bigSep Finset.univ fun p : OK => openTok (ER F) (cell c p.1.1 p.1.2)) ∗ duties c)

/-! ## Lists of resources -/

theorem with_pers {J : Type} (P : sProp 𝕄) [BI.Persistent P] {Φ Ψ : J → sProp 𝕄} : ∀ l : List J, (∀ j ∈ l, iprop(P ∗ Φ j) ⊢ Ψ j) → iprop(P ∗ bigSepL l Φ) ⊢ bigSepL l Ψ
  | [], _ => by rw [bigSepL_nil', bigSepL_nil']; iintro ⟨-, H⟩; iexact H
  | j :: l, h => by
    rw [BI.bigSepL_cons', BI.bigSepL_cons']
    iintro ⟨#HP, Hj, Hl⟩
    isplitl [Hj]
    · iapply (h j List.mem_cons_self)
      isplitr; · iexact HP
      iexact Hj
    iapply (with_pers P l fun i hi => h i (List.mem_cons_of_mem _ hi))
    isplitr; · iexact HP
    iexact Hl
theorem listed_persistent {J : Type} (Φ : J → sProp 𝕄) [h : ∀ j, BI.Persistent (Φ j)] : ∀ l : List J, BI.Persistent (bigSepL l Φ)
  | [] => inferInstanceAs (BI.Persistent (iprop(emp) : sProp 𝕄))
  | j :: l => by rw [BI.bigSepL_cons']; have := listed_persistent Φ l; infer_instance
theorem listed_at {J : Type} (Φ : J → sProp 𝕄) {j : J} : ∀ l : List J, j ∈ l → bigSepL l Φ ⊢ Φ j
  | [], h => absurd h List.not_mem_nil
  | i :: l, h => by
    rw [BI.bigSepL_cons']
    by_cases e : j = i
    · subst e; iintro ⟨H, -⟩; iexact H
    · iintro ⟨-, H⟩
      iapply (listed_at Φ l ((List.mem_cons.mp h).resolve_left e)); iexact H
theorem listed_perm {J : Type} (Φ : J → sProp 𝕄) {l l' : List J} (h : l.Perm l') : bigSepL l Φ ⊢ bigSepL l' Φ := by
  induction h with
  | nil => exact .rfl
  | cons x _ ih => rw [BI.bigSepL_cons', BI.bigSepL_cons']; exact sep_mono_right ih
  | swap x y l =>
    simp only [BI.bigSepL_cons']
    iintro ⟨Hy, Hx, Hl⟩
    isplitl [Hx]; · iexact Hx
    isplitl [Hy]; · iexact Hy
    iexact Hl
  | trans _ _ ih ih' => exact ih.trans ih'

/-! ## The opening of a device's cells -/

/-- Every cell of a device is at its first round. -/
def Reach (c : Dev nD) : sProp 𝕄 := bigSepL cellL fun p => reached (ER F) (cell c p.1 p.2) 0
instance reach_persistent (c : Dev nD) : BI.Persistent (Reach (F := F) c) := listed_persistent _ _
theorem reach_at (c : Dev nD) (k : CK) (i : Fin 16) (h : k.ok i = true) : Reach c ⊢ (reached (ER F) (cell c k i) 0 : sProp 𝕄) := by
  unfold Reach
  exact listed_at (j := (k, i)) (fun p : CK × Fin 16 => (reached (ER F) (cell c p.1 p.2) 0 : sProp 𝕄)) cellL ((mem_cellL k i).mpr h)

theorem open_all (κ : GSem nD τ sig → ℕ) (c : Dev nD) :
    iprop(Known I (names κ) ∗ (bigSep Finset.univ fun p : OK => openTok (ER F) (cell c p.1.1 p.1.2)) ∗ Pipeline.ownSems0 osem c)
      ⊢ (|={Set.univ}=> (bigSepL cellL (fun p => atPos (ER F) (cell c p.1 p.2) 0 ∅ 0) ∗ Reach c) : sProp 𝕄) := by
  unfold Reach
  rw [← bigSep_ok (fun p => (reached (ER F) (cell c p.1 p.2) 0 : sProp 𝕄)), ← bigSep_ok (fun p => (atPos (ER F) (cell c p.1 p.2) 0 ∅ 0 : sProp 𝕄)), ← BI.bigSep_sep']
  unfold Pipeline.ownSems0
  refine Entails.trans ?_ (BI.bigSep_fupd _ _)
  iintro ⟨#HK, Ho, Hs⟩
  ihave H := (Entails.of_eq (BI.bigSep_sep' Finset.univ (fun p : OK => (openTok (ER F) (cell c p.1.1 p.1.2) : sProp 𝕄)) (fun p : OK => semVal ((c : Thread nD τ), osem p) 0)).symm) $$ [Ho Hs]
  · isplitl [Ho]; · iexact Ho
    iexact Hs
  iapply (BI.bigSep_with_persistent (R := Known I (names κ)) (Φ := fun p : OK => iprop(openTok (ER F) (cell c p.1.1 p.1.2) ∗ semVal ((c : Thread nD τ), osem p) 0)) fun p _ => ?_)
  · iintro ⟨#HK, Ho, Hs⟩
    iapply (Rounds.cell_open (ER F) (Rd I) (g := cell c p.1.1 p.1.2) (κ := κ (cell c p.1.1 p.1.2)) (Set.mem_univ _))
    isplitr; · iapply (known_cell I (names κ) c p.1.1 p.1.2 p.2); iexact HK
    isplitl [Ho]; · iexact Ho
    iexact Hs
  · isplitr; · iexact HK
    iexact H

theorem cellL_eq (Φ : CK × Fin 16 → sProp 𝕄) : bigSepL cellL Φ =
    iprop((((bigSepL lns (fun l => bigSepL all16 fun i => Φ (.sS l, i)) ∗ bigSepL lns (fun l => bigSepL all16 fun i => Φ (.sR l, i))) ∗ bigSepL blks (fun b => bigSepL all16 fun i => Φ (.out b, i)))
      ∗ ((bigSepL all16 fun i => Φ (.raw, i)) ∗ emp)) ∗ Φ (.mine, 0) ∗ emp) := by
  unfold cellL cellKs
  rw [BI.bigSepL_append, bigSepL_flatMap]
  simp only [BI.bigSepL_append, BI.bigSepL_map, BI.bigSepL_cons', bigSepL_nil']

theorem lns_eq (Φ : Ln → sProp 𝕄) : bigSepL lns Φ = iprop(Φ .x ∗ Φ .y ∗ Φ .z ∗ Φ .f ∗ emp) := by
  simp only [lns, BI.bigSepL_cons', bigSepL_nil']

/-! ## What the neighbours are given -/

theorem dst_intro (h : Ch) (k : Fin 3) (i : Fin 16) (c : Dev nD) (e : h.peer (barPeer k c) = c) :
    iprop(Reach c ∗ owAny c (chunk h.dst.ref i)) ⊢ R0 I (barPeer k c) (.dst h, i) := by
  show _ ⊢ iprop(owAny (h.peer (barPeer k c)) (chunk h.dst.ref i) ∗ reached (ER F) (cell (h.peer (barPeer k c)) (.sR h.ln) i) 0)
  rw [e]
  iintro ⟨#HR, H⟩
  isplitl [H]; · iexact H
  iapply (reach_at c (.sR h.ln) i rfl); iexact HR
theorem peer_bar0 : ∀ c, Ch.x.peer (barPeer 0 c) = c := by decide +kernel
theorem peer_bar1 : ∀ c, Ch.y.peer (barPeer 1 c) = c := by decide +kernel
theorem peer_bar2 : ∀ c, Ch.z.peer (barPeer 2 c) = c := by decide +kernel
theorem all16_perm : all16.Perm (odds ++ evens) := by decide +kernel

theorem dsts (h : Ch) (k : Fin 3) (c : Dev nD) (e : h.peer (barPeer k c) = c) (l : List (Fin 16)) :
    iprop(Reach c ∗ bigSepL l fun i => owAny c (chunk h.dst.ref i)) ⊢ bigSepL (l.map fun i => ((.dst h, i) : Tok)) (R0 I (barPeer k c)) := by
  rw [BI.bigSepL_map]
  exact with_pers (Reach c) l fun i _ => dst_intro I h k i c e

theorem give_start (c : Dev nD) : iprop(Reach c ∗ recvs c) ⊢ bigSepL (barToks .give) (R I c) := by
  unfold barToks recvs
  simp only [BI.bigSepL_cons', bigSepL_nil', R_give]
  rw [show landing (barPeerI 0) = all16.map (fun i => (.dst .x, i)) from rfl, show landing (barPeerI 1) = all16.map (fun i => (.dst .y, i)) ++ odds.map fun i => (.dst .fy, i) from rfl,
    show landing (barPeerI 2) = all16.map (fun i => (.dst .z, i)) ++ evens.map fun i => (.dst .fz, i) from rfl,
    show barPeerI 0 = 0 from rfl, show barPeerI 1 = 1 from rfl, show barPeerI 2 = 2 from rfl, BI.bigSepL_append, BI.bigSepL_append]
  iintro ⟨#HR, Hx, Hy, Hz, Hd⟩
  ihave Hd := (listed_perm (fun i => owAny c (chunk Diag i)) all16_perm) $$ Hd
  ihave Hd := (Entails.of_eq (BI.bigSepL_append _ _ _)) $$ Hd
  icases Hd with ⟨Ho, He⟩
  isplitl [Hx]
  · iapply (dsts I .x 0 c (peer_bar0 c) all16)
    isplitr; · iexact HR
    iexact Hx
  isplitl [Hy Ho]
  · isplitl [Hy]
    · iapply (dsts I .y 1 c (peer_bar1 c) all16)
      isplitr; · iexact HR
      iexact Hy
    iapply (dsts I .fy 1 c (peer_bar1 c) odds)
    isplitr; · iexact HR
    iexact Ho
  isplitl [Hz He]
  · isplitl [Hz]
    · iapply (dsts I .z 2 c (peer_bar2 c) all16)
      isplitr; · iexact HR
      iexact Hz
    iapply (dsts I .fz 2 c (peer_bar2 c) evens)
    isplitr; · iexact HR
    iexact He
  iempintro

/-! ## What a device holds of the cells -/

/-- A cell's duty token, held by its payer, beside the same cell of one's own being at its first round. -/
def mine_or (c : Dev nD) (p : CK × Fin 16) : sProp 𝕄 := iprop(dutyTok (ER F) (cell (payer p c) p.1 p.2) 0 0 ∗ reached (ER F) (cell c p.1 p.2) 0)
theorem mine_or_peer (c : Dev nD) (l : Ln) (i : Fin 16) : mine_or c (.sR l, i) ⊢ R I c (.peer (l.ch i), i) := by
  show _ ⊢ dutyTok (ER F) (cell ((l.ch i).peer c) (.sR (l.ch i).ln) i) 0 0
  rw [ch_ln]
  unfold mine_or
  iintro ⟨H, -⟩; iexact H

theorem own_sS (c : Dev nD) (l : Ln) (i : Fin 16) : mine_or c (.sS l, i) = R I c (.duty (.sS l), i) := rfl
theorem own_out (c : Dev nD) (b : Blk) (i : Fin 16) : mine_or c (.out b, i) = R I c (.duty (.out b), i) := rfl
theorem own_raw (c : Dev nD) (i : Fin 16) : mine_or c (.raw, i) = R I c (.duty .raw, i) := rfl
theorem own_mine (c : Dev nD) (i : Fin 16) : mine_or c (.mine, i) = R I c (.duty .mine, i) := rfl
theorem R_pos (c : Dev nD) (k : CK) (i : Fin 16) : R I c (.pos k, i) = atPos (ER F) (cell c k i) 0 ∅ 0 := rfl
theorem R_zero (c : Dev nD) (k : CK) (i : Fin 16) : R I c (.zero k, i) = semVal (cell c k i) 0 := rfl

theorem mine_or_all (c : Dev nD) : iprop(Reach c ∗ bigSepL cellL fun p => dutyTok (ER F) (cell (payer p c) p.1 p.2) 0 0) ⊢ bigSepL cellL (mine_or (F := F) c) :=
  with_pers (Reach c) (Φ := fun p : CK × Fin 16 => (dutyTok (ER F) (cell (payer p c) p.1 p.2) 0 0 : sProp 𝕄)) cellL fun p hp => by
    unfold mine_or
    iintro ⟨#HR, H⟩
    isplitl [H]; · iexact H
    iapply (reach_at c p.1 p.2 ((mem_cellL p.1 p.2).mp hp)); iexact HR

theorem peers (c : Dev nD) : (bigSepL lns fun l => bigSepL all16 fun i => mine_or c (.sR l, i))
    ⊢ iprop((bigSepL all16 fun i => R I c (.peer .x, i)) ∗ (bigSepL all16 fun i => R I c (.peer .y, i)) ∗ (bigSepL all16 fun i => R I c (.peer .z, i))
      ∗ bigSepL all16 fun i => R I c (.peer (fwd i), i)) := by
  rw [lns_eq]
  iintro ⟨Hx, Hy, Hz, Hf, -⟩
  isplitl [Hx]; · iapply (BI.bigSepL_mono fun i _ => mine_or_peer I c .x i); iexact Hx
  isplitl [Hy]; · iapply (BI.bigSepL_mono fun i _ => mine_or_peer I c .y i); iexact Hy
  isplitl [Hz]; · iapply (BI.bigSepL_mono fun i _ => mine_or_peer I c .z i); iexact Hz
  iapply (BI.bigSepL_mono fun i _ => mine_or_peer I c .f i); iexact Hf

theorem cell_start (κ : GSem nD τ sig → ℕ) (c : Dev nD) :
    iprop(records I κ ∗ Reach c ∗ duties c ∗ creds I c ∗ atPos (ER F) (barCell c) 0 ∅ 0 ∗ bigSepL cellL (fun p => atPos (ER F) (cell c p.1 p.2) 0 ∅ 0))
      ⊢ bigSepL cellStart (R I c) := by
  have e := cellL_eq (F := F) (mine_or c)
  simp only [own_sS I, own_out I, own_raw I, own_mine I] at e
  unfold cellStart creds duties
  rw [cellL_eq (fun p => atPos (ER F) (cell c p.1 p.2) 0 ∅ 0)]
  simp only [BI.bigSepL_append, onAll_eq, sgls, barToks, ks, fwds, cellKs, BI.bigSepL_map, List.map_cons, List.map_nil, BI.bigSepL_cons', bigSepL_nil', R_barDuty, R_barPos, R_pos]
  rw [show barPeerI 0 = 0 from rfl, show barPeerI 1 = 1 from rfl, show barPeerI 2 = 2 from rfl]
  iintro ⟨#HK, #HR, ⟨⟨Hb0, Hb1, Hb2, -⟩, Hd⟩, ⟨Hbc, Hc⟩, Hbp, ⟨Hp, Hpm, -⟩⟩
  ihave Hd := (mine_or_all c) $$ [Hd]
  · isplitr; · iexact HR
    iexact Hd
  ihave Hd := (Entails.of_eq e) $$ Hd
  icases Hd with ⟨⟨⟨⟨HdS, HdR⟩, HdO⟩, HdW, -⟩, HdM, -⟩
  ihave HdR := (peers I c) $$ HdR
  icases HdR with ⟨Hx, Hy, Hz, Hf⟩
  isplitr [Hf]
  · isplitr [Hx Hy Hz]
    · isplitr [Hc]
      · isplitr [HdM]
        · isplitr [HdW]
          · isplitr [HdO]
            · isplitr [HdS]
              · isplitr [Hpm]
                · isplitr [Hp]
                  · isplitl [Hb0 Hb1 Hb2]
                    · isplitl [Hb0]
                      · isplitl [Hb0]; · iexact Hb0
                        iapply (records_bar I κ (barPeer 0 c)); iexact HK
                      isplitl [Hb1]
                      · isplitl [Hb1]; · iexact Hb1
                        iapply (records_bar I κ (barPeer 1 c)); iexact HK
                      isplitl [Hb2]
                      · isplitl [Hb2]; · iexact Hb2
                        iapply (records_bar I κ (barPeer 2 c)); iexact HK
                      iempintro
                    isplitl [Hbc]; · iexact Hbc
                    isplitl [Hbp]; · iexact Hbp
                    iempintro
                  · iexact Hp
                · isplitl [Hpm]; · iexact Hpm
                  iempintro
              · iexact HdS
            · iexact HdO
          · isplitl [HdW]; · iexact HdW
            iempintro
        · isplitl [HdM]; · iexact HdM
          iempintro
      · iexact Hc
    · isplitl [Hx]; · iexact Hx
      isplitl [Hy]; · iexact Hy
      isplitl [Hz]; · iexact Hz
      iempintro
  · iexact Hf

/-- At the end: the barrier's counter and the others', at zero. -/
theorem cell_end (c : Dev nD) : bigSepL cellEnd (R I c) ⊢ iprop(semVal (barCell c) 0 ∗ Pipeline.ownSems0 osem c) := by
  unfold cellEnd Pipeline.ownSems0
  rw [show (bigSep Finset.univ fun p : OK => (semVal ((c : Thread nD τ), osem p) 0 : sProp 𝕄)) = _ from bigSep_ok (fun p => (semVal (cell c p.1 p.2) 0 : sProp 𝕄)),
    cellL_eq (fun p => semVal (cell c p.1 p.2) 0)]
  simp only [BI.bigSepL_append, onAll_eq, sgls, cellKs, BI.bigSepL_map, List.map_cons, List.map_nil, BI.bigSepL_cons', bigSepL_nil', R_barZero, R_zero]
  iintro ⟨⟨⟨Hb, -⟩, Hz⟩, Hm⟩
  isplitl [Hb]; · iexact Hb
  isplitl [Hz]; · iexact Hz
  iexact Hm

/-- Everything at the start of the body. -/
theorem start_all (κ : GSem nD τ sig → ℕ) (c : Dev nD) (f : S2048x2048.Idx → Elt F .f32) :
    iprop(scr c ∗ inp I c fullShare ∗ (((c : Thread nD τ).loc main_v2) ↦{fullShare} f) ∗ ow c I.g fullShare (I.G c) ∗ Reach c ∗ bigSepL cellStart (R I c))
      ⊢ iprop(bigSepL start (R I c) ∗ (minePt I c ∗ bigSepL all16 (rawPt I c) -∗ inp I c fullShare)) := by
  unfold start
  rw [BI.bigSepL_append, BI.bigSepL_append]
  iintro ⟨Hs, Hi, Ho, Hg, #HR, Hc⟩
  ihave H := (mem_start I c f) $$ [Hs Hi Ho Hg]
  · isplitl [Hs]; · iexact Hs
    isplitl [Hi]; · iexact Hi
    isplitl [Ho]; · iexact Ho
    iexact Hg
  icases H with ⟨Hm, Hr, Hw⟩
  isplitr [Hw]
  · isplitr [Hc]
    · isplitl [Hm]; · iexact Hm
      iapply (give_start I c)
      isplitr; · iexact HR
      iexact Hr
    · iexact Hc
  iexact Hw

end Cert.KernelIdeal.Run

end
-- ==== Proof.K.Body.lean ====
/- The kernel's body as the pipeline calls it: from what a device holds at launch to what it leaves. -/
module

public import proofs.«01_k».proof.Proof.K.Open
public import proofs.«01_k».proof.Proof.Gen.KernelIdeal.Frame
public import Idealize.ShloMosaic.Lib.Quiescent
public import Idealize.ShloMosaic.Lib.Tactic
public import Idealize.ShloMosaic.Harness.Basic

@[expose] public section

noncomputable section

namespace Cert.KernelIdeal.Run

open Idealize.ShloMosaic Idealize.ShloMosaic.TcCoe
open Idealize.SL Idealize.SL.RA Idealize.SL.Sem Idealize.SL.ProofMode
open Idealize.SL.BI (sProp bigSep bigSepL)
open scoped Idealize.SL.BI
open Idealize.SL.BI.BIBase Idealize.SL.BI.Laws
open Idealize.ShloMosaic.Rounds
open Cert.KernelIdeal.Gen
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the kernel reads, and the buffers before and after -/

/-- The kernel's inputs in a memory. -/
def inp₀ : Inp F where
  A c := V m c main_arg0
  g := (cfg0.win 0).stage (cfg0.slots t0_0 0)
  G c := iblk m c 0 t0_0

abbrev V₀ (c : Dev nD) : Valuation τ sig (Elt F) := fun b => m (c, b)
abbrev V₁ (c : Dev nD) : Valuation τ sig (Elt F) := StableHlo.after hostOps0 (V₀ m c)
abbrev V₂ (c : Dev nD) : Valuation τ sig (Elt F) := Function.update (V₁ m c) (Proc.devRef .tc main_v2) (outAll (inp₀ m) c)

abbrev arrs : Finset (DevRef τ sig) := Pipeline.arrRefs (τ := τ) spec0
abbrev refs : Finset (DevRef τ sig) := Pipeline.ucRefs τ sig \ arrs

theorem refs_list : refs = [(Proc.devRef .tc main_arg0 : DevRef τ sig), Proc.devRef .tc main_arg1, Proc.devRef .tc main_v2].toFinset := by decide
theorem arrs_sub : arrs ⊆ Pipeline.ucRefs τ sig := by decide

theorem held_refs (c : Dev nD) (W : Valuation τ sig (Elt F)) : (StableHlo.held (c : Thread nD τ) refs W : sProp 𝕄)
    = iprop((((c : Thread nD τ).loc main_arg0) ↦{fullShare} W main_arg0) ∗ (((c : Thread nD τ).loc main_arg1) ↦{fullShare} W main_arg1) ∗ (((c : Thread nD τ).loc main_v2) ↦{fullShare} W main_v2)) := by
  unfold StableHlo.held
  rw [BI.bigSep_eq_bigSepL_of_eq [(Proc.devRef .tc main_arg0 : DevRef τ sig), Proc.devRef .tc main_arg1, Proc.devRef .tc main_v2] refs_list (by decide)]
  rfl

theorem V₂_out (c : Dev nD) : V₂ m c main_v2 = outAll (inp₀ m) c := Function.update_self ..
theorem V₂_ne (c : Dev nD) (b : DevRef τ sig) (h : b ≠ Proc.devRef .tc main_v2) : V₂ m c b = V₁ m c b := Function.update_of_ne h ..
theorem V₂_arg0 (c : Dev nD) : V₂ m c main_arg0 = V₁ m c main_arg0 := V₂_ne m c _ (by decide)
theorem V₂_arg1 (c : Dev nD) : V₂ m c main_arg1 = V₁ m c main_arg1 := V₂_ne m c _ (by decide)

/-! ## The body's proof data -/

/-- Before the body. -/
def Pre (c : Dev nD) : sProp 𝕄 :=
  iprop(scr c ∗ inp (inp₀ m) c fullShare ∗ (((c : Thread nD τ).loc main_arg1) ↦{fullShare} V m c main_arg1) ∗ (((c : Thread nD τ).loc main_v2) ↦{fullShare} V m c main_v2)
    ∗ (∃ κ, Known (inp₀ m) (names κ) ∗ Reach c ∗ bigSepL cellStart (R (inp₀ m) c)) ∗ ∃ r, prngReg c r)
/-- After it. -/
def Post (c : Dev nD) : sProp 𝕄 :=
  iprop(scr c ∗ inp (inp₀ m) c fullShare ∗ (((c : Thread nD τ).loc main_arg1) ↦{fullShare} V m c main_arg1) ∗ (((c : Thread nD τ).loc main_v2) ↦{fullShare} outAll (inp₀ m) c)
    ∗ (semVal (barCell c) 0 ∗ Pipeline.ownSems0 osem c) ∗ ∃ r, prngReg c r)

def dat (c : Dev nD) : Dat τ (Elt F) Unit ℕ UU ℕ cfg0 c where
  A w := V m c (Pipeline.arrRef spec0 w)
  after w t := match w with
    | 0 => iblk m c 0 t
    | ⟨_ + 1, h⟩ => absurd h (Nat.not_lt.2 (Nat.le_add_left _ _))
  Φ t := if t.val = 0 then Pre m c else Post m c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m
  | ⟨_ + 1, h⟩ => absurd h (Nat.not_lt.2 (Nat.le_add_left _ _))

theorem Φ_at (c : Dev nD) (t) : (dat m c).Φ t = if t.val = 0 then Pre m c else Post m c := rfl
theorem owed_at (c : Dev nD) (t) : (dat m c).owed t = if t.val = 0 then O₀ c else 0 := rfl
theorem t_first : (t0_0.castSucc).val = 0 := by rfl
theorem t_last : ¬ (t0_0.succ).val = 0 := by rw [Fin.val_succ]; exact Nat.succ_ne_zero _
theorem Φ_first (c : Dev nD) : (dat m c).Φ t0_0.castSucc = Pre m c := by rw [Φ_at, if_pos t_first]
theorem Φ_last (c : Dev nD) : (dat m c).Φ t0_0.succ = Post m c := by rw [Φ_at, if_neg t_last]
theorem owed_first (c : Dev nD) : (dat m c).owed t0_0.castSucc = O₀ c := by rw [owed_at, if_pos t_first]
theorem owed_last (c : Dev nD) : (dat m c).owed t0_0.succ = 0 := by rw [owed_at, if_neg t_last]

theorem before_eq (c : Dev nD) (t : Fin cfg0.N) (d) : (dat m c).before 0 t d = iblk m c 0 t :=
  ((dat m c).before_in_eq_fetched 0 rfl (fun _ => rfl) (fun _ _ _ => rfl) (fun t => by show iblk m c 0 t = _; unfold Dat.blockOf iblk; rfl) t d).trans
    (by unfold Dat.fetched Dat.blockOf iblk; rfl)

theorem owes_in {c : Dev nD} (t : Fin (cfg0.N + 1)) (O : CellTallies nD τ sig Unit) (h : (dat m c).owed t = O) :
    iprop(∃ W, owes (c : Thread nD τ) O W) ⊢ ((dat m c).owesAt () t : sProp 𝕄) := by
  unfold Dat.owesAt Pipeline.owesWithin Dat.bound
  rw [h, show (dat m c).recorded t = Set.univ from rfl]
  iintro ⟨%W, HO⟩
  iexists W
  isplitr; · ipureintro; exact fun _ _ => Or.inl trivial
  iexact HO
theorem owes_out {c : Dev nD} (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin
  rw [h]
  iintro ⟨%W, -, HO⟩
  iexists W; iexact HO

theorem own_run (c : Dev nD) (Q : PUnit → sProp 𝕄) :
    iprop(Pre m c ∗ (∃ W, owes (c : Thread nD τ) (O₀ c) W) ∗ ow c (inp₀ m).g fullShare ((inp₀ m).G c)
      ∗ ((Post m c ∗ (∃ W, owes (c : Thread nD τ) (0 : CellTallies nD τ sig Unit) W) ∗ ow c (inp₀ m).g fullShare ((inp₀ m).G c)) -∗ Q ⟨⟩))
      ⊢ WP c (runOps (inp₀ m).g c program) Q := by
  unfold Pre Post
  iintro ⟨⟨Hs, Hi, Ha, Ho, ⟨%κ, #HK, #HR, Hc⟩, Hp⟩, ⟨%W, HO⟩, Hg, Hk⟩
  ihave H := (start_all (inp₀ m) κ c (V m c main_v2)) $$ [Hs Hi Ho Hg Hc]
  · isplitl [Hs]; · iexact Hs
    isplitl [Hi]; · iexact Hi
    isplitl [Ho]; · iexact Ho
    isplitl [Hg]; · iexact Hg
    isplitr; · iexact HR
    iexact Hc
  icases H with ⟨H, Hw⟩
  iapply (run_all (inp₀ m) (names κ) c W Q)
  isplitr; · iexact HK
  isplitl [HO]; · iexact HO
  isplitl [H]; · iexact H
  iintro ⟨HO, Hf⟩
  ihave Hf := (show bigSepL finish (R (inp₀ m) c) ⊢ iprop(bigSepL memEnd (R (inp₀ m) c) ∗ bigSepL cellEnd (R (inp₀ m) c)) from
    Entails.of_eq (BI.bigSepL_append _ _ _)) $$ Hf
  icases Hf with ⟨Hm, Hz⟩
  ihave Hz := (cell_end (inp₀ m) c) $$ Hz
  ihave Hm := (mem_end (inp₀ m) c) $$ [Hm Hw]
  · isplitl [Hm]; · iexact Hm
    iexact Hw
  icases Hm with ⟨Hs, Hi, Ho, Hg⟩
  iapply Hk
  isplitr [HO Hg]
  · isplitl [Hs]; · iexact Hs
    isplitl [Hi]; · iexact Hi
    isplitl [Ha]; · iexact Ha
    isplitl [Ho]; · iexact Ho
    isplitl [Hz]; · iexact Hz
    iexact Hp
  isplitl [HO]; · iexact HO
  iexact Hg

theorem stage_in (c : Dev nD) (d) : (owns c.tc (stage0_0 0) fullShare ((dat m c).before 0 t0_0 d) : sProp 𝕄) = ow c (inp₀ m).g fullShare ((inp₀ m).G c) := by
  rw [before_eq]; rfl
theorem stage_out (c : Dev nD) : (owns c.tc (stage0_0 0) fullShare ((dat m c).after 0 t0_0) : sProp 𝕄) = ow c (inp₀ m).g fullShare ((inp₀ m).G c) := rfl

theorem prog_eq : (defs₀ (F := F)) .tc cfg0.body (cfg0.bodyArgs t0_0 (cfg0.slots t0_0)) = (.op .deviceId fun d => runOps (inp₀ m).g d program) :=
  (show _ = cc0_body (Memref.whole main_arg0) (Memref.isWhole_whole _) (inp₀ m).g (hstage0_0 0) (Memref.whole main_v2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 from rfl).trans (body_eq _ _)

theorem body_ok (c : Dev nD) : BodyObligation (dat m c) defs₀ 𝒱₀ () Set.univ := fun t => by
  obtain rfl := fin_N0 t
  rw [bigSep_W0, bigSep_W0, Φ_first, Φ_last, prog_eq m, wp_deviceId]
  dsimp only
  rw [stage_out]
  iintro ⟨HP, HO, ⟨%d, Hg⟩⟩
  ihave HO := (owes_out m t0_0.castSucc (O₀ c) (owed_first m c)) $$ HO
  ihave Hg := (Entails.of_eq (stage_in m c d)) $$ Hg
  iapply (own_run m c _)
  isplitl [HP]; · iexact HP
  isplitl [HO]; · iexact HO
  isplitl [Hg]; · iexact Hg
  iintro ⟨HP, HO, Hg⟩
  isplitl [HP]; · iexact HP
  isplitl [HO]; · iapply (owes_in m t0_0.succ 0 (owed_last m c)); iexact HO
  iexact Hg

end Cert.KernelIdeal.Run

end
-- ==== Proof.K.Launch.lean ====
/- The launch: the region around the body, what each device is dealt, and the run of the whole program. -/
module

public import proofs.«01_k».proof.Proof.K.Body

@[expose] public section

noncomputable section

namespace Cert.KernelIdeal.Run

open Idealize.ShloMosaic Idealize.ShloMosaic.TcCoe
open Idealize.SL Idealize.SL.RA Idealize.SL.Sem Idealize.SL.ProofMode
open Idealize.SL.BI (sProp bigSep bigSepL)
open scoped Idealize.SL.BI
open Idealize.SL.BI.BIBase Idealize.SL.BI.Laws
open Idealize.ShloMosaic.Rounds
open Cert.KernelIdeal.Gen
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The region -/

def Tk (c : Dev nD) : sProp 𝕄 := iprop(∃ κ, records (inp₀ m) κ ∗ linear c ∗ creds (inp₀ m) c)
def Xk (c : Dev nD) : sProp 𝕄 := iprop(∃ κ, Known (inp₀ m) (names κ) ∗ Reach c ∗ bigSepL cellStart (R (inp₀ m) c))
def Yk (c : Dev nD) : sProp 𝕄 := semVal (barCell c) 0

theorem opening (c : Dev nD) : iprop(Tk m c ∗ Pipeline.ownSems0 osem c ∗ levAts L lv) ⊢ (|={Set.univ}=> Xk m c : sProp 𝕄) := by
  unfold Tk Xk linear
  iintro ⟨⟨%κ, #HR, ⟨Hb, Ho, Hd⟩, Hc⟩, Hs, #Hlev⟩
  ihave #HK := (records_known (inp₀ m) κ) $$ []
  · isplitr; · iexact HR
    iexact Hlev
  imod (open_all (inp₀ m) κ c) $$ [Ho Hs] with ⟨Hat, #Hre⟩
  · isplitr; · iexact HK
    isplitl [Ho]; · iexact Ho
    iexact Hs
  imodintro
  iexists κ
  isplitr; · iexact HK
  isplitr; · iexact Hre
  iapply (cell_start (inp₀ m) κ c)
  isplitr; · iexact HR
  isplitr; · iexact Hre
  isplitl [Hd]; · iexact Hd
  isplitl [Hc]; · iexact Hc
  isplitl [Hb]; · iexact Hb
  iexact Hat

theorem rest_eq (c : Dev nD) : (Pipeline.scopedRest (Val := Elt F) spec0 c : sProp 𝕄) = scr c := by
  unfold scr
  exact scopedRest0_eq c

theorem entering (c : Dev nD) : iprop(Pipeline.scopedRest (Pipeline.pin (pcfgs (F := F)) adm 0).spec c ∗ (∃ r, prngReg c r) ∗ StableHlo.held (c.tc : Thread nD τ) refs (V₁ m c) ∗ Xk m c)
    ⊢ (pdats m 0 c).Φ 0 := by
  rw [show (pdats m 0 c).Φ 0 = Pre m c from Φ_first m c, held_refs, show (Pipeline.scopedRest (Pipeline.pin (pcfgs (F := F)) adm 0).spec c : sProp 𝕄) = scr c from rest_eq c]
  unfold Pre Xk
  iintro ⟨Hs, Hp, ⟨Hi, Ha, Ho⟩, HK⟩
  isplitl [Hs]; · iexact Hs
  isplitl [Hi]; · iexact Hi
  isplitl [Ha]; · iexact Ha
  isplitl [Ho]; · iexact Ho
  isplitl [HK]; · iexact HK
  iexact Hp

theorem leaving (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) refs (V₂ m c) ∗ Pipeline.ownSems0 osem c ∗ Yk c) := by
  rw [show (pdats m 0 c).Φ (Fin.last _) = Post m c from Φ_last m c, held_refs, show (Pipeline.scopedRest (Pipeline.pin (pcfgs (F := F)) adm 0).spec c : sProp 𝕄) = scr c from rest_eq c,
    V₂_out, V₂_arg0, V₂_arg1]
  unfold Post Yk
  iintro ⟨Hs, Hi, Ha, Ho, ⟨Hb, Hz⟩, Hp⟩
  isplitl [Hs]; · iexact Hs
  isplitl [Hp]; · iexact Hp
  isplitl [Hi Ha Ho]
  · isplitl [Hi]; · iexact Hi
    isplitl [Ha]; · iexact Ha
    iexact Ho
  isplitl [Hz]; · iexact Hz
  iexact Hb

theorem rlev_pos (l : Ln) (i : ℕ) : 0 < rlev l i := by cases l <;> simp only [rlev] <;> omega
theorem owed_above (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · obtain ⟨p, -, rfl⟩ := oweSum_pos (u := i) h
    refine ⟨by rw [Pend.L_eq]; exact Finset.mem_singleton_self _, ?_⟩
    show 0 < lv (p.cell c) ()
    rw [Pend.lv_eq]
    cases p with
    | bar k => exact Nat.one_pos
    | rem r i => exact rlev_pos r.ln i.val
  · exact absurd h (Nat.lt_irrefl 0)

theorem stage_level (c : Dev nD) (w : Fin cfg0.W) (s : Fin (cfg0.win w).nbuf) : lv ((c : Thread nD τ), .dma ((cfg0.win w).sem s)) () ≤ 0 := by
  have h : ∀ (w : Fin cfg0.W) (s : Fin (cfg0.win w).nbuf), lv ((0 : Dev nD), .dma ((cfg0.win w).sem s)) () ≤ 0 := by decide
  exact h w s

theorem share_full (c : Dev nD) (w : Fin cfg0.W) : (dat m c).share w = fullShare := by
  unfold Dat.share; split <;> rfl

theorem arr_before (c : Dev nD) (w : Fin cfg0.W) : (dat m c).arrAt w 0 = V₁ m c (Proc.devRef .tc (Pipeline.arrRef spec0 w)) := by
  match w with
  | 0 => exact (dat m c).arrAt_in 0 rfl 0
theorem arr_after (c : Dev nD) (w : Fin cfg0.W) : (dat m c).arrAt w (Pipeline.pin (pcfgs (F := F)) adm 0).N = V₂ m c (Proc.devRef .tc (Pipeline.arrRef spec0 w)) := by
  match w with
  | 0 => exact ((dat m c).arrAt_in 0 rfl _).trans (V₂_ne m c _ (by decide)).symm

theorem own_sems : Pipeline.OwnSemFacts spec0 osem where
  isScoped := by decide
  inj := osem_inj
  disj := by decide

set_option backward.isDefEq.respectTransparency.types false in
/-- The kernel's region. -/
def reg : Pipeline.RegionSeg (pcfgs (F := F)) adm (pdats m) () defs₀ 𝒱₀ L lv 0 :=
  Pipeline.RegionSeg.ofTalk (pcfgs (F := F)) adm (pdats m) () defs₀ 𝒱₀ L lv 0 osem own_sems
    refs refs (Finset.Subset.refl _) launch0.toP rfl (fun c => (body_ok m c).loose)
    (fun _ => 0) O₀ (fun c => (owed_first m c).trans (zero_add _).symm) (owed_last m) (fun _ => rfl) (share_full m)
    (V₁ m) (V₂ m) (fun _ b hb => absurd hb (by rw [Finset.sdiff_self]; exact Finset.notMem_empty b))
    (Tk m) Yk (Xk m) Yk (opening m) (entering m) (leaving m)
    (fun c => by iintro H; imodintro; iexact H)
    (fun _ => 0)
    ⟨fun c w s => by rw [L_tc]; exact Finset.mem_singleton_self _, stage_level, fun c t g i h => owed_above m c t g i h⟩
    (fun _ => iprop(emp))
    (arr_before m) (arr_after m)

end Cert.KernelIdeal.Run

end
-- ==== Proof.K.Main.lean ====
/- The run of the whole program: what each device is dealt at the launch and what holds at the end. -/
module

public import proofs.«01_k».proof.Proof.K.Launch

@[expose] public section

noncomputable section

namespace Cert.KernelIdeal.Run

open Idealize.ShloMosaic Idealize.ShloMosaic.TcCoe
open Idealize.SL Idealize.SL.RA Idealize.SL.Sem Idealize.SL.ProofMode
open Idealize.SL.BI (sProp bigSep bigSepL)
open scoped Idealize.SL.BI
open Idealize.SL.BI.BIBase Idealize.SL.BI.Laws
open Idealize.ShloMosaic.Rounds
open Cert.KernelIdeal.Gen
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The segments -/

/-- What a device carries past the host's part. -/
def Rest (c : Dev nD) : sProp 𝕄 := iprop((∃ r, prngReg c r) ∗ Tk m c ∗ ∃ W, owes (c : Thread nD τ) (O₀ c) W)

theorem host_sub : ∀ op ∈ (hostOps0 : List (HloOp τ sig (Elt F))), op.bufs ⊆ Pipeline.ucRefs τ sig := fun op h =>
  Pipeline.sub_ucRefs op (List.forall_iff_forall_mem.mp hostOps0_sub op h)

def host : Pipeline.HostSeg (Name := ℕ) (U := UU) (pcfgs (F := F)) defs₀ 𝒱₀ L lv :=
  Pipeline.HostSeg.ofOps _ _ _ _ _ (Pipeline.ucRefs τ sig) hostOps0 host_sub (List.forall_iff_forall_mem.mp hostOps0_fresh) (V₀ m) (Rest m)

def segs : List (Pipeline.Seg (pcfgs (F := F)) adm (pdats m) () defs₀ 𝒱₀ L lv) := [.host (host m), .region (reg m)]

theorem main_eq (c : Dev nD) : main (F := F) c = Pipeline.Seg.run (segs m) :=
  main_segs adm (pdats m) () 𝒱₀ L lv (host m) (reg m) rfl c

theorem reg_pre (c : Dev nD) : iprop(StableHlo.held (c : Thread nD τ) (Pipeline.ucRefs τ sig) (V₁ m c) ∗ Rest m c) ⊢ (reg m).pre c := by
  show _ ⊢ iprop(StableHlo.held (c.tc : Thread nD τ) arrs (V₁ m c) ∗ (∃ r, prngReg c r)
    ∗ (StableHlo.held (c.tc : Thread nD τ) refs (V₁ m c) ∗ emp) ∗ Tk m c ∗ ∃ Wd, owes (c : Thread nD τ) ((0 : CellTallies nD τ sig Unit) + O₀ c) Wd)
  rw [StableHlo.held_sub_split (c.tc : Thread nD τ) arrs_sub (V₁ m c), zero_add]
  unfold Rest
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

/-- What a device ends with. -/
def Tₙ (c : Dev nD) : sProp 𝕄 := iprop(StableHlo.held (c : Thread nD τ) refs (V₂ m c) ∗ semVal (barCell c) 0)

theorem reg_post (c : Dev nD) : (reg m).post c ⊢ iprop(Tₙ m c ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) refs (V₂ m c) ∗ emp) ∗ Yk c ∗ ∃ Wd, owes (c : Thread nD τ) (0 : CellTallies nD τ sig Unit) Wd) ⊢ _
  unfold Yk Tₙ
  iintro ⟨-, -, ⟨Hr, -⟩, Hb, HO⟩
  isplitr [HO]
  · isplitl [Hr]; · iexact Hr
    iexact Hb
  iexact HO

/-! ## The launch -/

/-- The launch's element: the pipeline's part and the protocol's. -/
def u₀ : UU :=
  (initOf (Pipeline.cells (Pipeline.pin (pcfgs (F := F)) adm) cellOf_inj) (Pipeline.launchToks (Pipeline.pin (pcfgs (F := F)) adm) cellOf_inj),
    launchOf barCells scCells dutyToks)

/-- A resource set down on device 0. -/
def parked (X : sProp 𝕄) (c : Dev nD) : sProp 𝕄 := if c = 0 then X else iprop(emp)
theorem parked_all (X : sProp 𝕄) : bigSep Finset.univ (parked X) = X := by
  rw [BI.bigSep_univ_at _ (0 : Dev nD), BI.bigSep_congr (s := Finset.univ.erase 0) (Φ := parked X) (Ψ := fun _ => (BI.emp : sProp 𝕄))
    fun c hc => (if_neg (Finset.ne_of_mem_erase hc) : parked X c = iprop(emp)), BI.bigSep_emp_const, show parked X 0 = X from if_pos rfl]
  have h₁ : iprop(X ∗ emp) ⊢ X := by iintro ⟨H, -⟩; iexact H
  have h₂ : X ⊢ iprop(X ∗ emp) := by
    iintro H
    isplitl [H]; · iexact H
    iempintro
  exact BI.equiv_iff.mp ⟨h₁, h₂⟩

def G : Dev nD → sProp 𝕄 := parked (BI.own ((ER F) (launchOf barCells scCells dutyToks)))

/-- What a device starts with. -/
def T₀ (c : Dev nD) : sProp 𝕄 := iprop(StableHlo.held (c : Thread nD τ) (Pipeline.ucRefs τ sig) (V₀ m c) ∗ Rest m c)

/-- What is a device's own from the beginning. -/
def own₀ (c : Dev nD) : sProp 𝕄 :=
  iprop(StableHlo.held (c : Thread nD τ) (Pipeline.ucRefs τ sig) (V₀ m c) ∗ creds (inp₀ m) c ∗ owes (c : Thread nD τ) (O₀ c) ∅ ∗ ∃ r, prngReg c r)

theorem T₀_intro (κ : GSem nD τ sig → ℕ) (c : Dev nD) : iprop(records (inp₀ m) κ ∗ linear c ∗ own₀ m c) ⊢ T₀ m c := by
  unfold own₀ T₀ Rest Tk
  iintro ⟨#HR, Hl, Hh, Hc, HO, Hp⟩
  isplitl [Hh]; · iexact Hh
  isplitl [Hp]; · iexact Hp
  isplitr [HO]
  · iexists κ
    isplitr; · iexact HR
    isplitl [Hl]; · iexact Hl
    iexact Hc
  iexists ∅; iexact HO

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem core_start (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(own₀ m c ∗ (semVal (barCell c) 0 ∗ G c)) : sProp 𝕄) := by
  rw [show unscopedBufs c (fun b => m ((c : Thread nD τ).loc b)) = StableHlo.held (c : Thread nD τ) (Pipeline.ucRefs τ sig) (V₀ m c) from Pipeline.unscopedBufs_held c (V₀ m c),
    unscopedSems0_eq]
  unfold own₀
  iintro ⟨Hh, Hus, HO, Hcr, Hp, HG⟩
  ihave Hc := (creds_intro (inp₀ m) c) $$ Hcr
  isplitl [Hh Hc HO Hp]
  · isplitl [Hh]; · iexact Hh
    isplitl [Hc]; · iexact Hc
    isplitl [HO]; · iexact HO
    iexists (ρ c); iexact Hp
  isplitl [Hus]; · iexact Hus
  iexact HG

theorem bar_cells (Φ : GSem nD τ sig → sProp 𝕄) : bigSep barCells Φ = bigSep Finset.univ fun c : Dev nD => Φ (barCell c) := BI.bigSep_map ..
theorem sc_cells (Φ : GSem nD τ sig → sProp 𝕄) : bigSep scCells Φ = bigSep Finset.univ fun c : Dev nD => bigSep Finset.univ fun p : OK => Φ (cell c p.1.1 p.1.2) := by
  unfold scCells
  rw [BI.bigSep_map, BI.bigSep_univ_prod]
  rfl

theorem linear_all : iprop((bigSep barCells fun g => atPos (ER F) g 0 ∅ 0) ∗ (bigSep scCells fun g => openTok (ER F) g) ∗ bigSep dutyToks fun x => dutyTok (ER F) x.1 x.2.1 x.2.2)
    ⊢ bigSep Finset.univ fun c : Dev nD => linear (F := F) c := by
  unfold linear
  rw [bar_cells, sc_cells, dutyToks_eq, toks_dealt, BI.bigSep_sep', BI.bigSep_sep']

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(own₀ m c ∗ (semVal (barCell c) 0 ∗ G c)) : sProp 𝕄) from BI.bigSep_mono fun c _ => core_start m ρ c) $$ H
  ihave H := (Entails.of_eq (BI.bigSep_sep' _ _ _)) $$ H
  icases H with ⟨HB, H⟩
  ihave H := (Entails.of_eq (BI.bigSep_sep' _ _ _)) $$ H
  icases H with ⟨Hv, HG⟩
  ihave Hv := (Entails.of_eq (bar_cells (fun g => (semVal g 0 : sProp 𝕄))).symm) $$ Hv
  ihave Hu := (show bigSep Finset.univ (G (F := F)) ⊢ BI.own ((ER F) (launchOf barCells scCells dutyToks)) from
    Entails.of_eq (parked_all _)) $$ HG
  imod (Rounds.fund_launch (ER F) (Rd (inp₀ m)) cells_disjoint (fun g _ h => h) dutyToks) $$ [Hv Hu] with ⟨%κ, -, #Hinv, #Hr, Hat, Hopen, Htok⟩
  · isplitl [Hv]; · iexact Hv
    iexact Hu
  imodintro
  iapply (BI.bigSep_with_persistent (R := records (inp₀ m) κ) (Φ := fun c => iprop(linear c ∗ own₀ m c)) fun c _ => T₀_intro m κ c)
  isplitr
  · unfold records
    isplitr; · iexact Hinv
    iexact Hr
  iapply (Entails.of_eq (BI.bigSep_sep' Finset.univ (fun c => linear (F := F) c) (own₀ m)).symm)
  isplitr [HB]
  · iapply linear_all
    isplitl [Hat]; · iexact Hat
    isplitl [Hopen]; · iexact Hopen
    iexact Htok
  iexact HB

theorem unscoped_sem : ∀ sm : SemLoc sig, sm.isScoped .tc = false → sm = .reg barS := by decide
theorem no_level (g : GSem nD τ sig) (h : g.1.2 ≠ .tc) : L g = ∅ := if_neg h

set_option backward.isDefEq.respectTransparency.types false in
/-- The run: every weakly fair execution ends, the inputs unchanged, the output at its value, every counter zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = outAll (inp₀ m) c) ∧ r.2.sem = fun _ => 0) :=
  Pipeline.θ_run_regions_kit_sems (pcfgs (F := F)) adm (pdats m) () cellOf_inj (EP F) defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := no_level) (G := G) (u₀ := u₀ (F := F))
    (hu₀ := by
      unfold u₀ G
      iintro Hu
      ihave H := (ownU_pair _ _) $$ Hu
      icases H with ⟨HP, HX⟩
      imodintro
      isplitl [HP]; · iexact HP
      rw [parked_all]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = V₂ m c main_arg0 ∧ s.mem ((c : Thread nD τ).loc main_arg1) = V₂ m c main_arg1 ∧ s.mem ((c : Thread nD τ).loc main_v2) = V₂ m c main_v2)
      ∧ s.sem (barCell c) = 0)
    (hfin := fun c s' => by
      dsimp only [Tₙ]; rw [held_refs]
      iintro ⟨⟨⟨Hx, Hy, Hz⟩, Hb0⟩, HSI⟩
      icombine HSI Hx gives %hx
      icombine HSI Hy gives %hy
      icombine HSI Hz gives %hz
      icombine HSI Hb0 gives %hb
      imodintro
      isplitr
      · ipureintro
        exact ⟨⟨Buf.eq_of_forall_mem_univ hx, Buf.eq_of_forall_mem_univ hy, Buf.eq_of_forall_mem_univ hz⟩, by simpa using hb⟩
      iexact HSI)
    (hQ := fun s h hs => ⟨fun c => by
        obtain ⟨⟨hx, hy, hz⟩, -⟩ := h c
        rw [V₂_arg0] at hx; rw [V₂_arg1] at hy; rw [V₂_out] at hz
        exact ⟨hx.trans (V_main_arg0 m c), hy.trans (V_main_arg1 m c), hz⟩,
      sem_eq_zero hs fun c sm hsm => by
        obtain rfl := unscoped_sem sm hsm
        exact (h c).2⟩)

end Cert.KernelIdeal.Run

end
-- ==== Proof.V.Scalar.lean ====
/- The arithmetic of the two programs over the extended reals: the product with the reciprocal root is the quotient by the root. -/
module

public import Idealize.ShloMosaic.Lib.Pointwise.Tactic
public import Idealize.ShloMosaic.Lib.Pointwise.Reduce
public import Idealize.ShloMosaic.Lib.Pointwise.Reshape

@[expose] public section

noncomputable section

namespace Cert.Values

open Idealize.ShloMosaic

/-- The width of a row, as the programs spell it. -/
abbrev width : EReal := Ideal.ofBits .f32 0x45000000#32
/-- What is added to the mean of the squares. -/
abbrev small : EReal := Ideal.ofBits .f32 0x358637BD#32

/-- A pattern of no sign whose exponent is neither end denotes a positive number. -/
theorem pattern_pos (b : BitVec 32) (hs : ¬ (b.extractLsb' 31 1 == 1#1) = true) (h₁ : ¬ (b.extractLsb' 23 8).toNat = 2 ^ 8 - 1) (h₂ : ¬ (b.extractLsb' 23 8).toNat = 0) :
    0 < (Ideal.ofBits .f32 b : EReal) := by
  show 0 < Ideal.ieee 8 23 b
  unfold Ideal.ieee
  dsimp only
  rw [if_neg h₁, if_neg h₂, if_neg hs]
  refine EReal.coe_pos.mpr ?_
  rw [one_mul]
  exact mul_pos (by positivity) (by positivity)
theorem width_pos : 0 < width := pattern_pos _ (by decide) (by decide) (by decide)
theorem small_pos : 0 < small := pattern_pos _ (by decide) (by decide) (by decide)

/-- The mean of the squares of a row, and the small amount. -/
def level (s : Fin 2048 → EReal) : EReal := Ideal.div (∑ l, s l * s l) width + small
/-- A normalised entry, as the reference has it. -/
def normed (s : Fin 2048 → EReal) (g : EReal) (k : Fin 2048) : EReal := Ideal.div (s k) (Ideal.sqrt (level s)) * g

theorem square_nonneg (x : EReal) : 0 ≤ x * x := by
  rcases le_total 0 x with h | h
  · exact mul_nonneg h h
  · exact EReal.mul_nonneg_iff.mpr (Or.inr ⟨h, h⟩)

theorem level_pos (s : Fin 2048 → EReal) : 0 < level s := by
  have h : 0 ≤ ∑ l, s l * s l := Finset.sum_nonneg fun l _ => square_nonneg (s l)
  have h' : 0 ≤ Ideal.div (∑ l, s l * s l) width := by
    unfold Ideal.div
    rw [if_neg width_pos.ne']
    exact mul_nonneg h (EReal.inv_nonneg_of_nonneg width_pos.le)
  exact lt_of_lt_of_le small_pos (le_add_of_nonneg_left h')

theorem mul_rsqrt (x v : EReal) (h : 0 < v) : x * Ideal.rsqrt v = Ideal.div x (Ideal.sqrt v) := by
  induction v with
  | bot => exact absurd h (by simp)
  | top => simp [Ideal.div]
  | coe r =>
    have hr : 0 < r := by exact_mod_cast h
    have hs : Real.sqrt r ≠ 0 := (Real.sqrt_pos.mpr hr).ne'
    rw [Ideal.rsqrt_coe, Ideal.sqrt_coe, if_neg hr.not_gt, if_neg hr.ne', if_neg hr.not_gt]
    unfold Ideal.div
    rw [if_neg (by exact_mod_cast hs), EReal.coe_inv]

/-- A normalised entry, as the kernel has it. -/
theorem normed_eq (s : Fin 2048 → EReal) (g : EReal) (k : Fin 2048) : s k * Ideal.rsqrt (level s) * g = normed s g k := by
  unfold normed; rw [mul_rsqrt _ _ (level_pos s)]

end Cert.Values

end
-- ==== Proof.V.Ref.lean ====
/- What the reference computes, entry by entry. -/
module

public import proofs.«01_k».proof.Proof.V.Scalar
public import proofs.«01_k».proof.Proof.Gen.ReferenceIdeal.Run
public import Idealize.ShloMosaic.Lib.Quiescent

@[expose] public section

noncomputable section

namespace Cert.Values

open Idealize.ShloMosaic Idealize.ShloMosaic.TcCoe Idealize.SL.Sem Cert.ReferenceIdeal Cert.ReferenceIdeal.Gen

/-- The reference's result. -/
def refVal (A : FVec Ideal S2x4096x2048 .f32) (g : FVec Ideal S2048 .f32) : FVec Ideal S4096x2048 .f32 :=
  mulf (Host.divf (Host.reduceAdd A (constant S_ .f32 0x00000000#32) reducesTo_S2x4096x2048_S4096x2048_d0 h_S_) (broadcastInDim S4096x2048 ![0, 1] bcast_S4096x1_S4096x2048_0_1 (Host.sqrt (addf (Host.divf (broadcastInDim S4096x1 ![0] bcast_S4096_S4096x1_0 (Host.reduceAdd (mulf (Host.reduceAdd A (constant S_ .f32 0x00000000#32) reducesTo_S2x4096x2048_S4096x2048_d0 h_S_) (Host.reduceAdd A (constant S_ .f32 0x00000000#32) reducesTo_S2x4096x2048_S4096x2048_d0 h_S_)) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 g))

/-- The sum over the two halves. -/
def refSum (A : FVec Ideal S2x4096x2048 .f32) : FVec Ideal S4096x2048 .f32 :=
  Host.reduceAdd A (constant S_ .f32 0x00000000#32) reducesTo_S2x4096x2048_S4096x2048_d0 h_S_
theorem refSum_at (A : FVec Ideal S2x4096x2048 .f32) (r : Fin 4096) (k : Fin 2048) : refSum A (ix2 r k) = (A (ix3 0 r k) + A (ix3 1 r k) : EReal) := by
  unfold refSum
  pointwise
  rw [Fin.sum_univ_two]

/-- One result of the reference. -/
theorem refVal_at (A : FVec Ideal S2x4096x2048 .f32) (g : FVec Ideal S2048 .f32) (r : Fin 4096) (k : Fin 2048) :
    refVal A g (ix2 r k) = normed (fun l => A (ix3 0 r l) + A (ix3 1 r l)) (g (ix1 k)) k := by
  unfold refVal
  rw [show Host.reduceAdd A (constant S_ .f32 0x00000000#32) reducesTo_S2x4096x2048_S4096x2048_d0 h_S_ = refSum A from rfl]
  unfold normed level
  simp only [← refSum_at]
  pointwise

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c : Thread nD τ).loc main_v13) = refVal (m ((c : Thread nD τ).loc main_arg0)) (m ((c : Thread nD τ).loc main_arg1))
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0 :=
  (θ_run _ _ _).mono (fun _ h => ⟨h, sem_eq_zero_of_no_sems (by decide) _⟩) (Cert.ReferenceIdeal.Value.run (F := Ideal) m ρ)

end Cert.Values

end
-- ==== Proof.V.Ker.lean ====
/- What the kernel leaves in its result, entry by entry. -/
module

public import proofs.«01_k».proof.Proof.V.Scalar
public import proofs.«01_k».proof.Proof.K.Main

@[expose] public section

noncomputable section

namespace Cert.Values

open Idealize.ShloMosaic Idealize.ShloMosaic.TcCoe Cert.KernelIdeal Cert.KernelIdeal.Gen Cert.KernelIdeal.Run

variable (I : Inp Ideal)

/-! ## Arithmetic -/

theorem down_at (v : FVec Ideal S32x2048 .f32) (j : S32x2048.Idx) : down v j = v j := by unfold down; pointwise
theorem up_at (v : FVec Ideal S32x2048 .bf16) (j : S32x2048.Idx) : up v j = v j := by unfold up; pointwise
theorem same_at (v : FVec Ideal S32x2048 .f32) (j : S32x2048.Idx) : same v j = v j := by unfold same; pointwise

theorem resVal_at (a : FVec Ideal S32x2048 .f32) (b : FVec Ideal S32x2048 .bf16) (g : FVec Ideal S1x2048 .f32) (r : Fin 32) (k : Fin 2048) :
    resVal a b g (ix2 r k) = normed (fun l => (a (ix2 r l) + b (ix2 r l) : EReal)) (g (ix2 0 k)) k := by
  rw [← normed_eq]
  unfold resVal level
  pointwise

/-! ## Rows -/

/-- The row of the whole array a device's own share starts at. -/
def base (c : Dev nD) : ℕ := 2048 * (c.val / 4) + 1024 * ((c.val / 2) % 2) + 512 * (c.val % 2)
theorem base_le (c : Dev nD) : base c + 512 ≤ 4096 := by have := c.isLt; unfold base nD at *; omega

theorem slab_read {n : ℕ} (o : Fin 3 → ℕ) (h : ∀ a, o a + (⟨3, ![1, n, 2048]⟩ : Shape).size a ≤ S1x4096x2048.size a) (hq : (⟨3, ![1, n, 2048]⟩ : Shape).Squeezes ⟨2, ![n, 2048]⟩)
    (hc : (⟨3, ![1, n, 2048]⟩ : Shape).ShapeCasts ⟨2, ![n, 2048]⟩)
    (s : ℕ) (e : o = ![0, s, 0]) (f : S1x4096x2048.Idx → EReal) (r : Fin n) (k : Fin 2048) (q : Fin 4096) (hq' : q.val = s + r.val) :
    ((MA.slice (Rect.unit (s := S1x4096x2048) o (⟨3, ![1, n, 2048]⟩ : Shape).size h) (fun _ => rfl)).squeeze ⟨2, ![n, 2048]⟩ hq).view.read (Elt Ideal) f (ix2 r k) = f (ix3 0 q k) := by
  subst e
  have hk : Shape.reshapeEquiv hc (ix2 r k) = (ix3 0 r k : (⟨3, ![1, n, 2048]⟩ : Shape).Idx) :=
    Shape.reshapeEquiv_eq_of_vals hc _ _ (r.val * 2048 + k.val) (r.val * 2048 + k.val)
      (by rw [rowMajor_val3 _ (n * 2048) 2048 rfl rfl]; show 0 * (n * 2048) + r.val * 2048 + k.val = _; omega)
      (by rw [rowMajor_val2 _ 2048 rfl]; rfl) rfl
  show f ((Rect.unit (s := S1x4096x2048) ![0, s, 0] (⟨3, ![1, n, 2048]⟩ : Shape).size h).emb (Shape.reshapeEquiv hc (ix2 r k))) = _
  rw [hk]
  refine congrArg f (funext fun a => Fin.ext ?_)
  match a with
  | 0 => rfl
  | 1 => show s + 1 * r.val = q.val; omega
  | 2 => show 0 + 1 * k.val = k.val; omega

theorem mineV_at (c : Dev nD) (r : Fin 512) (k : Fin 2048) (q : Fin 4096) (hq : q.val = base c + r.val) : mineV I c (ix2 r k) = I.A c (ix3 0 q k) :=
  slab_read (k0_off1 c) (k0_off1_inb c) squeezes_S1x512x2048_S512x2048 (by decide) (base c) (k0_off1_eq c) (I.A c) r k q hq
theorem mineC_at (c : Dev nD) (i : Fin 16) (r : Fin 32) (k : Fin 2048) (q : Fin 4096) (hq : q.val = base c + (32 * i.val + r.val)) :
    mineC I c i (ix2 r k) = I.A c (ix3 0 q k) := by
  have hi := i.isLt
  have hr := r.isLt
  have e : (rC i).emb (ix2 r k) = ix2 (⟨32 * i.val + r.val, by omega⟩ : Fin 512) k := by
    refine funext fun a => Fin.ext ?_
    match a with
    | 0 => show 32 * i.val + 1 * r.val = 32 * i.val + r.val; omega
    | 1 => show 0 + 1 * k.val = k.val; omega
  show mineV I c ((rC i).emb (ix2 r k)) = _
  rw [e]
  exact mineV_at I c _ k q hq
theorem rawV_at (c : Dev nD) (i : Fin 16) (r : Fin 32) (k : Fin 2048) (q : Fin 4096) (hq : q.val = base (px c) + (32 * i.val + r.val)) :
    rawV I c i (ix2 r k) = I.A c (ix3 0 q k) := by
  have h : ∀ (c : Dev nD) (i : Fin 16), k0_off2 c (word i) = ![0, base (px c) + 32 * i.val, 0] := by decide +kernel
  exact slab_read (k0_off2 c (word i)) (k0_off2_inb c i) squeezes_S1x32x2048_S32x2048 (by decide) _ (h c i) (I.A c) r k q (by omega)

/-! ## A device's result -/

/-- Which half of the whole array a device holds. -/
def half (c : Dev nD) : Fin 2 := ⟨c.val / 4, by have := c.isLt; unfold nD at *; omega⟩
theorem half_px : ∀ c, half (px c) = 1 - half c := by decide
theorem px_twice : ∀ c, px (px c) = c := by decide

variable (T : (⟨3, ![2, 4096, 2048]⟩ : Shape).Idx → EReal) (g : (⟨1, ![2048]⟩ : Shape).Idx → EReal)
/-- The devices hold the halves of `T`, and each the scale `g`. -/
structure Holds : Prop where
  rows : ∀ (c : Dev nD) (q : Fin 4096) (k : Fin 2048), I.A c (ix3 0 q k) = T (ix3 (half c) q k)
  scale : ∀ (c : Dev nD) (k : Fin 2048), gamV I c (ix2 0 k) = g (ix1 k)

variable {T g} in
theorem resV_at (h : Holds I T g) (c : Dev nD) (i : Fin 16) (r : Fin 32) (k : Fin 2048) (q : Fin 4096) (hq : q.val = base c + (32 * i.val + r.val)) :
    resV I c i (ix2 r k) = normed (fun l => T (ix3 0 q l) + T (ix3 1 q l)) (g (ix1 k)) k := by
  unfold resV
  rw [resVal_at, h.scale]
  have e : (fun l => (mineC I c i (ix2 r l) + sV I (px c) i (ix2 r l) : EReal)) = fun l => T (ix3 0 q l) + T (ix3 1 q l) := funext fun l => by
    rw [mineC_at I c i r l q hq, h.rows]
    unfold sV
    rw [down_at, rawV_at I (px c) i r l q (by rw [px_twice]; exact hq), h.rows, half_px]
    have : half c = 0 ∨ half c = 1 := by generalize half c = u; revert u; decide
    rcases this with e | e <;> rw [e]
    · rfl
    · exact add_comm _ _
  rw [e]

/-- The device whose sums a block of the result holds. -/
def owner (b : Blk) (c : Dev nD) : Dev nD := match b with | .m => c | .y => py c | .z => pz c | .d => py (pz c)
theorem diag_comm : ∀ c : Dev nD, pz (py c) = py (pz c) := by decide
theorem owner_base : ∀ (b : Blk) (c : Dev nD), base (owner b c) = 2048 * (half c).val + 512 * quarter b c := by decide

theorem outV_at (b : Blk) (c : Dev nD) (i : Fin 16) (j : S32x2048.Idx) : outV I b c i j = resV I (owner b c) i j := by
  cases b
  · exact same_at _ _
  · exact (up_at _ _).trans (down_at _ _)
  · exact (up_at _ _).trans (down_at _ _)
  · refine (up_at _ _).trans ?_
    show (if i.val % 2 = 0 then rV I (py (pz c)) i else rV I (pz (py c)) i) j = _
    rw [diag_comm, ite_self]
    exact down_at _ _

variable {T g} in
theorem outAll_row (h : Holds I T g) (c : Dev nD) (r : Fin 2048) (k : Fin 2048) (q : Fin 4096) (hq : q.val = 2048 * (half c).val + r.val) :
    outAll I c (ix2 r k) = normed (fun l => T (ix3 0 q l) + T (ix3 1 q l)) (g (ix1 k)) k := by
  have hr := r.isLt
  obtain ⟨b, hb⟩ := quarter_onto c ⟨r.val / 512, by omega⟩
  dsimp only at hb
  let i : Fin 16 := ⟨r.val % 512 / 32, by omega⟩
  let s : Fin 32 := ⟨r.val % 32, by omega⟩
  have e : (outR b c i).emb (ix2 s k) = ix2 r k := by
    refine funext fun a => Fin.ext ?_
    match a with
    | 0 => show 512 * quarter b c + 32 * (r.val % 512 / 32) + 1 * (r.val % 32) = r.val; omega
    | 1 => show 0 + 1 * k.val = k.val; omega
  rw [← e, outAll_at, outV_at]
  refine resV_at I h (owner b c) i s k q ?_
  rw [owner_base, hq, hb]
  show _ = _ + (32 * (r.val % 512 / 32) + r.val % 32)
  omega

end Cert.Values

end
-- ==== Proof.V.Final.lean ====
/- The kernel's results and the reference's agree. -/
module

public import proofs.«01_k».proof.Proof.V.Ref
public import proofs.«01_k».proof.Proof.V.Ker

@[expose] public section

noncomputable section

namespace Cert.Values

open Idealize.ShloMosaic Idealize.ShloMosaic.TcCoe Cert.KernelIdeal Cert.KernelIdeal.Gen Cert.KernelIdeal.Run

variable (m : (ℓ : Loc nD τ sig) → Buf (Elt Ideal) ℓ)

/-- The scale as the kernel finds it: the argument, laid out as one row. -/
theorem row_eq (c : Dev nD) (k : Fin 2048) : V m c main_v1 (ix2 0 k) = m ((c : Thread nD τ).loc main_arg1) (ix1 k) := by
  have e : V m c main_v1 (ix2 0 k) = shapeCast S1x2048 (m ((c : Thread nD τ).loc main_arg1)) shapeCasts_S2048_S1x2048 (ix2 0 k) := by
    unfold V hostOps0
    rw [StableHlo.after_cons, StableHlo.after_nil, StableHlo.reshape_result]
    rfl
  refine e.trans ?_
  exact congrArg (m ((c : Thread nD τ).loc main_arg1)) (Shape.reshapeEquiv_eq_of_vals _ _ _ k.val k.val (rowMajor_val1 _) (by rw [rowMajor_val2 _ 2048 rfl]; show 0 * 2048 + k.val = _; omega) rfl)

theorem gamV_at (c : Dev nD) (k : Fin 2048) : gamV (inp₀ m) c (ix2 0 k) = m ((c : Thread nD τ).loc main_arg1) (ix1 k) := by
  rw [← row_eq m c k]
  refine congrArg (V m c main_v1) (funext fun a => Fin.ext ?_)
  match a with
  | 0 => rfl
  | 1 => show 0 + 1 * (0 + 1 * k.val) = k.val; omega

variable {m} in
theorem holds_of (T : (⟨3, ![2, 4096, 2048]⟩ : Shape).Idx → EReal) (g : (⟨1, ![2048]⟩ : Shape).Idx → EReal)
    (h : ∀ c : Dev nD, m ((c : Thread nD τ).loc main_arg0) = Layout.blockN ⟨3, ![1, 4096, 2048]⟩ ⟨3, ![2, 4096, 2048]⟩ (Layout.meshBlock [2, 2, 2] ![[0], [], []] c) T
      ∧ m ((c : Thread nD τ).loc main_arg1) = g) : Holds (inp₀ m) T g where
  rows c q k := by
    show V m c main_arg0 (ix3 0 q k) = _
    rw [V_main_arg0, (h c).1]
    have e0 : ∀ c : Dev nD, (Layout.meshBlock [2, 2, 2] ![[0], [], []] c (by decide) 0).val = (half c).val := by decide
    have e1 : ∀ c : Dev nD, (Layout.meshBlock [2, 2, 2] ![[0], [], []] c (by decide) 1).val = 0 := by decide
    have e2 : ∀ c : Dev nD, (Layout.meshBlock [2, 2, 2] ![[0], [], []] c (by decide) 2).val = 0 := by decide
    refine congrArg T (funext fun a => Fin.ext ?_)
    match a with
    | 0 => show (Layout.meshBlock [2, 2, 2] ![[0], [], []] c (by decide) 0).val * 1 + 0 = (half c).val; rw [e0]; omega
    | 1 => show (Layout.meshBlock [2, 2, 2] ![[0], [], []] c (by decide) 1).val * 4096 + q.val = q.val; rw [e1]; omega
    | 2 => show (Layout.meshBlock [2, 2, 2] ![[0], [], []] c (by decide) 2).val * 2048 + k.val = k.val; rw [e2]; omega
  scale c k := by rw [gamV_at, (h c).2]

variable {m} in
/-- Each device ends with its half of the reference's result. -/
theorem out_eq (T : (⟨3, ![2, 4096, 2048]⟩ : Shape).Idx → EReal) (g : (⟨1, ![2048]⟩ : Shape).Idx → EReal) (h : Holds (inp₀ m) T g) (c : Dev nD) :
    outAll (inp₀ m) c = Layout.blockN ⟨2, ![2048, 2048]⟩ ⟨2, ![4096, 2048]⟩ (Layout.meshBlock [2, 2, 2] ![[0], []] c) (refVal T g) := by
  have e0 : ∀ c : Dev nD, (Layout.meshBlock [2, 2, 2] ![[0], []] c (by decide) 0).val = (half c).val := by decide
  have e1 : ∀ c : Dev nD, (Layout.meshBlock [2, 2, 2] ![[0], []] c (by decide) 1).val = 0 := by decide
  funext j
  obtain ⟨r, k, rfl⟩ : ∃ (r : Fin 2048) (k : Fin 2048), j = ix2 r k := ⟨j 0, j 1, funext fun a => by match a with | 0 => rfl | 1 => rfl⟩
  have hr := r.isLt
  have hc := (half c).isLt
  rw [outAll_row (inp₀ m) h c r k ⟨2048 * (half c).val + r.val, by omega⟩ rfl, ← refVal_at]
  refine congrArg (refVal T g) (funext fun a => Fin.ext ?_)
  match a with
  | 0 => show 2048 * (half c).val + r.val = (Layout.meshBlock [2, 2, 2] ![[0], []] c (by decide) 0).val * 2048 + r.val; rw [e0]; omega
  | 1 => show k.val = (Layout.meshBlock [2, 2, 2] ![[0], []] c (by decide) 1).val * 2048 + k.val; rw [e1]; omega

end Cert.Values

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.K.Main
public import proofs.«01_k».proof.Proof.KF.Main
public import proofs.«01_k».proof.Proof.V.Final
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => (θ_run _ _ _).mono (fun _ h => ⟨fun c => ⟨(h.1 c).1, (h.1 c).2.1⟩, h.2⟩) (Cert.Kernel.Run.run_main (F := Bits) m g),
  fun m g _ => (θ_run _ _ _).mono (fun _ h => ⟨fun c => ⟨(h.1 c).1, (h.1 c).2.1⟩, h.2⟩) (Cert.KernelIdeal.Run.run_main (F := Ideal) m g),
  fun m g _ => (θ_run _ _ _).mono (fun _ h => ⟨fun c => (h.1 c).2, h.2⟩) (Cert.Values.ref_run m g),
  trivial,
  fun m g m' g' _ hA =>
    ⟨Cert.Values.refVal (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)),
      (θ_run _ _ _).mono (fun _ h c => ⟨(h.1 c).2.2.trans (Cert.Values.out_eq _ _ (Cert.Values.holds_of _ _ hA) c), (h.1 c).1, (h.1 c).2.1⟩)
        (Cert.KernelIdeal.Run.run_main (F := Ideal) m g),
      (θ_run _ _ _).mono (fun _ h => h.1 0) (Cert.Values.ref_run m' g')⟩⟩

end Cert.Proof

end
